-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_embedding [hPre_finite_embedding : Cert.Pre_finite_embedding.Facts] (m : (ℓ : Loc Cert.KernelIdeal.nD Cert.KernelIdeal.τ Cert.KernelIdeal.sig) → Buf (Elt Ideal) ℓ) : Prop :=
  ∀ c : Dev Cert.KernelIdeal.nD,
    (Cert.Pre_finite_embedding.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_embedding [hPre_finite_embedding : Cert.Pre_finite_embedding.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_embedding.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_embedding [hKernelIdeal : Cert.KernelIdeal.Facts] [hPre_finite_embedding : Cert.Pre_finite_embedding.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_embedding m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_embedding [hReferenceIdeal : Cert.ReferenceIdeal.Facts] [hPre_finite_embedding : Cert.Pre_finite_embedding.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_embedding m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_embedding [hKernelIdeal : Cert.KernelIdeal.Facts] [hReferenceIdeal : Cert.ReferenceIdeal.Facts] [hPre_finite_embedding : Cert.Pre_finite_embedding.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_embedding m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_embedding : Cert.Pre_finite_embedding.Facts),
    quiescent_Kernel (hKernel := hKernel)
    ∧ quiescent_KernelIdeal (hKernelIdeal := hKernelIdeal)
    ∧ quiescent_KernelIdeal_pre_finite_embedding (hKernelIdeal := hKernelIdeal) (hPre_finite_embedding := hPre_finite_embedding)
    ∧ quiescent_ReferenceIdeal (hReferenceIdeal := hReferenceIdeal)
    ∧ quiescent_ReferenceIdeal_pre_finite_embedding (hReferenceIdeal := hReferenceIdeal) (hPre_finite_embedding := hPre_finite_embedding)
    ∧ preserves_Kernel_KernelIdeal
    ∧ algebraic_KernelIdeal_ReferenceIdeal_pre_finite_embedding (hKernelIdeal := hKernelIdeal) (hReferenceIdeal := hReferenceIdeal) (hPre_finite_embedding := hPre_finite_embedding)
-- ==== Pre_finite_embedding.lean ====
abbrev S8192x256 : Shape := ⟨2, ![8192, 256]⟩
abbrev S8192 : Shape := ⟨1, ![8192]⟩
abbrev S256 : Shape := ⟨1, ![256]⟩
abbrev S_ : Shape := ⟨0, ![]⟩

class Facts : Prop where
  bcast_S_S8192x256 : S_.BroadcastsInDim S8192x256 (![] : Fin 0 → Fin S8192x256.rank)

variable [Facts]

def fn {F : FTy → Type} [FloatOps F] (main_arg0 : FVec F S8192x256 .f32) (main_arg1 : FVec F S8192x256 .f32) (main_arg2 : FVec F S8192x256 .f32) (main_arg3 : FVec F S8192 .f32) (main_arg4 : FVec F S256 .f32) (main_arg5 : FVec F S256 .f32) : IVec S8192x256 1 :=
  let main_v0 : FVec F S8192x256 .f32 := Host.absf main_arg1
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  main_v2
-- ==== Kernel.lean ====
abbrev S8192x256 : Shape := ⟨2, ![8192, 256]⟩
abbrev S8192 : Shape := ⟨1, ![8192]⟩
abbrev S256 : Shape := ⟨1, ![256]⟩
abbrev S8192x1 : Shape := ⟨2, ![8192, 1]⟩
abbrev S1x256 : Shape := ⟨2, ![1, 256]⟩
abbrev S1024x256 : Shape := ⟨2, ![1024, 256]⟩
abbrev S1024x1 : Shape := ⟨2, ![1024, 1]⟩
abbrev S1x8192 : Shape := ⟨2, ![1, 8192]⟩
abbrev S1x2048 : Shape := ⟨2, ![1, 2048]⟩
abbrev S1024 : Shape := ⟨1, ![1024]⟩
abbrev S2048x256 : Shape := ⟨2, ![2048, 256]⟩
abbrev S1024x2048 : Shape := ⟨2, ![1024, 2048]⟩

abbrev nBuf : Space → Nat
  | .hbm => 7
  | .vmem => 12
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192, .f32⟩
  | .hbm, ⟨4, _⟩ => ⟨S256, .f32⟩
  | .hbm, ⟨5, _⟩ => ⟨S256, .f32⟩
  | .hbm, ⟨6, _⟩ => ⟨S8192x1, .i32⟩
  | .local _ .vmem, ⟨0, _⟩ => ⟨S8192x256, .f32⟩
  | .local _ .vmem, ⟨1, _⟩ => ⟨S8192x256, .f32⟩
  | .local _ .vmem, ⟨2, _⟩ => ⟨S8192x1, .i32⟩
  | .local _ .vmem, ⟨3, _⟩ => ⟨S1x256, .f32⟩
  | .local _ .vmem, ⟨4, _⟩ => ⟨S1x256, .f32⟩
  | .local _ .vmem, ⟨5, _⟩ => ⟨S1024x256, .bf16⟩
  | .local _ .vmem, ⟨6, _⟩ => ⟨S1024x1, .f32⟩
  | .local _ .vmem, ⟨7, _⟩ => ⟨S1024x1, .f32⟩
  | .local _ .vmem, ⟨8, _⟩ => ⟨S1024x1, .i32⟩
  | .local _ .vmem, ⟨9, _⟩ => ⟨S8192x256, .bf16⟩
  | .local _ .vmem, ⟨10, _⟩ => ⟨S1x8192, .f32⟩
  | .local _ .vmem, ⟨11, _⟩ => ⟨S1x2048, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c0_i32_12 : BitVec 32 := 0#32
  let v30 : BitVec 1 := Scalar.cmpi .eq v26 c0_i32_12
  let v31 : BitVec 32 := Scalar.extui v30
  let c0_i32_13 : BitVec 32 := 0#32
  let v32 : BitVec 1 := Scalar.cmpi .ne v31 c0_i32_13
  v32

def k0_off1 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let c1024_i32 : BitVec 32 := 1024#32
  let v70 : BitVec 32 := Scalar.muli v16 c1024_i32
  let v71 : Index := Scalar.indexCast v70
  let c0_31 : Index := 0#32
  ![v71.toNat, 0]
def k0_off2 (i : grid0.Coords) : Fin 2 → Nat :=
  let arg0 : BitVec 32 := BitVec.ofNat 32 (i 0).val
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c2048_i32 : BitVec 32 := 2048#32
  let v34 : BitVec 32 := Scalar.muli v26 c2048_i32
  let v35 : Index := Scalar.indexCast v34
  let c0_15 : Index := 0#32
  ![v35.toNat, 0]
def k0_off3 (i : grid0.Coords) : Fin 2 → Nat :=
  let c0_19 : Index := 0#32
  let arg0 : BitVec 32 := BitVec.ofNat 32 (i 0).val
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c2048_i32_18 : BitVec 32 := 2048#32
  let v39 : BitVec 32 := Scalar.muli v26 c2048_i32_18
  let v40 : Index := Scalar.indexCast v39
  ![0, v40.toNat]
def k0_cond5 (i : grid0.Coords) : BitVec 1 :=
  let arg0 : BitVec 32 := BitVec.ofNat 32 (i 0).val
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c3_i32 : BitVec 32 := 3#32
  let v67 : BitVec 1 := Scalar.cmpi .eq v26 c3_i32
  let v68 : BitVec 32 := Scalar.extui v67
  let c0_i32_30 : BitVec 32 := 0#32
  let v69 : BitVec 1 := Scalar.cmpi .ne v68 c0_i32_30
  v69

def k0_off4 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let c1024_i32 : BitVec 32 := 1024#32
  let v71 : BitVec 32 := Scalar.muli v16 c1024_i32
  let v72 : Index := Scalar.indexCast v71
  let c0_33 : Index := 0#32
  ![v72.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8192x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8192x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S8192x256 : Shape := ⟨2, ![8192, 256]⟩
abbrev S8192 : Shape := ⟨1, ![8192]⟩
abbrev S256 : Shape := ⟨1, ![256]⟩
abbrev S_ : Shape := ⟨0, ![]⟩
abbrev S1x256 : Shape := ⟨2, ![1, 256]⟩
abbrev S8192x1 : Shape := ⟨2, ![8192, 1]⟩
abbrev S1x8192 : Shape := ⟨2, ![1, 8192]⟩
abbrev S8192x8192 : Shape := ⟨2, ![8192, 8192]⟩
abbrev S256x8192 : Shape := ⟨2, ![256, 8192]⟩

abbrev nBuf : Space → Nat
  | .hbm => 67
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192, .f32⟩
  | .hbm, ⟨4, _⟩ => ⟨S256, .f32⟩
  | .hbm, ⟨5, _⟩ => ⟨S256, .f32⟩
  | .hbm, ⟨6, _⟩ => ⟨S_, .f32⟩
  | .hbm, ⟨7, _⟩ => ⟨S256, .f32⟩
  | .hbm, ⟨8, _⟩ => ⟨S_, .f32⟩
  | .hbm, ⟨9, _⟩ => ⟨S256, .f32⟩
  | .hbm, ⟨10, _⟩ => ⟨S256, .f32⟩
  | .hbm, ⟨11, _⟩ => ⟨S_, .i32⟩
  | .hbm, ⟨12, _⟩ => ⟨S_, .f32⟩
  | .hbm, ⟨13, _⟩ => ⟨S256, .f32⟩
  | .hbm, ⟨14, _⟩ => ⟨S1x256, .f32⟩
  | .hbm, ⟨15, _⟩ => ⟨S_, .f32⟩
  | .hbm, ⟨16, _⟩ => ⟨S1x256, .f32⟩
  | .hbm, ⟨17, _⟩ => ⟨S1x256, .f32⟩
  | .hbm, ⟨18, _⟩ => ⟨S8192x256, .f32⟩
  | .hbm, ⟨19, _⟩ => ⟨S8192x256, .f32⟩
  | .hbm, ⟨20, _⟩ => ⟨S8192x256, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S256, .f32⟩
  | .hbm, ⟨26, _⟩ => ⟨S256, .f32⟩
  | .hbm, ⟨27, _⟩ => ⟨S256, .f32⟩
  | .hbm, ⟨28, _⟩ => ⟨S_, .f32⟩
  | .hbm, ⟨29, _⟩ => ⟨S_, .i1⟩
  | .hbm, ⟨30, _⟩ => ⟨S_, .f32⟩
  | .hbm, ⟨31, _⟩ => ⟨S_, .f32⟩
  | .hbm, ⟨32, _⟩ => ⟨S256, .f32⟩
  | .hbm, ⟨33, _⟩ => ⟨S256, .f32⟩
  | .hbm, ⟨34, _⟩ => ⟨S1x256, .f32⟩
  | .hbm, ⟨35, _⟩ => ⟨S8192x256, .f32⟩
  | .hbm, ⟨36, _⟩ => ⟨S8192x256, .f32⟩
  | .hbm, ⟨37, _⟩ => ⟨S_, .f32⟩
  | .hbm, ⟨38, _⟩ => ⟨S256, .f32⟩
  | .hbm, ⟨39, _⟩ => ⟨S256, .f32⟩
  | .hbm, ⟨40, _⟩ => ⟨S256, .f32⟩
  | .hbm, ⟨41, _⟩ => ⟨S1x256, .f32⟩
  | .hbm, ⟨42, _⟩ => ⟨S8192x256, .f32⟩
  | .hbm, ⟨43, _⟩ => ⟨S8192x256, .f32⟩
  | .hbm, ⟨44, _⟩ => ⟨S8192x256, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S8192x256, .f32⟩
  | .hbm, ⟨49, _⟩ => ⟨S_, .f32⟩
  | .hbm, ⟨50, _⟩ => ⟨S8192, .f32⟩
  | .hbm, ⟨51, _⟩ => ⟨S1x8192, .f32⟩
  | .hbm, ⟨52, _⟩ => ⟨S8192x8192, .f32⟩
  | .hbm, ⟨53, _⟩ => ⟨S8192x8192, .f32⟩
  | .hbm, ⟨54, _⟩ => ⟨S8192x8192, .f32⟩
  | .hbm, ⟨55, _⟩ => ⟨S256x8192, .f32⟩
  | .hbm, ⟨56, _⟩ => ⟨S8192x8192, .f32⟩
  | .hbm, ⟨57, _⟩ => ⟨S_, .f32⟩
  | .hbm, ⟨58, _⟩ => ⟨S8192x8192, .f32⟩
  | .hbm, ⟨59, _⟩ => ⟨S8192x8192, .f32⟩
  | .hbm, ⟨60, _⟩ => ⟨S8192x8192, .f32⟩
  | .hbm, ⟨61, _⟩ => ⟨S8192x8192, .i32⟩
  | .hbm, ⟨62, _⟩ => ⟨S_, .f32⟩
  | .hbm, ⟨63, _⟩ => ⟨S_, .i32⟩
  | .hbm, ⟨64, _⟩ => ⟨S8192, .f32⟩
  | .hbm, ⟨65, _⟩ => ⟨S8192, .i32⟩
  | .hbm, ⟨66, _⟩ => ⟨S8192x1, .i32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_cst_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_cst_1 : Ref sig .tc := ⟨.hbm, 22, rfl⟩
abbrev main_call0_v8 : Ref sig .tc := ⟨.hbm, 23, rfl⟩
abbrev main_call0_cst_2 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_cst_3 : Ref sig .tc := ⟨.hbm, 28, rfl⟩
abbrev main_call0_v12 : Ref sig .tc := ⟨.hbm, 29, rfl⟩
abbrev main_call0_cst_4 : Ref sig .tc := ⟨.hbm, 30, rfl⟩
abbrev main_call0_call0_v0 : Ref sig .tc := ⟨.hbm, 31, rfl⟩
abbrev main_call0_call0_v1 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_cst_1 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_cst_2 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_cst_3 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_cst_4 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_call1_v0 : Ref sig .tc := ⟨.hbm, 61, rfl⟩
abbrev main_call1_cst : Ref sig .tc := ⟨.hbm, 62, rfl⟩
abbrev main_call1_c : Ref sig .tc := ⟨.hbm, 63, rfl⟩
abbrev main_call1_v1_0 : Ref sig .tc := ⟨.hbm, 64, rfl⟩
abbrev main_v27 : Ref sig .tc := ⟨.hbm, 65, rfl⟩
abbrev main_v28 : Ref sig .tc := ⟨.hbm, 66, rfl⟩

abbrev nD : Nat := 1
abbrev τ : Topo := Topo.v7x

variable {F : FTy → Type} [FloatOps F]
-- ==== Proof.Body.lean ====
module

public import proofs.«01_k».proof.Proof.Gen.KernelIdeal.Frame
public import proofs.«01_k».proof.Proof.Gen.KernelIdeal.Points
public import proofs.«01_k».proof.Proof.Gen.KernelIdeal.Skeleton
public import Idealize.ShloMosaic.Lib.Pipeline.Frame
public import Idealize.ShloMosaic.Lib.Tactic
public import Idealize.ShloMosaic.Lib.VecWindow
public import Idealize.ShloMosaic.Lib.Pipeline.Value

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The grid point, as the kernel computes it. -/
abbrev word (i : grid0.Coords) : BitVec 32 := BitVec.ofNat 32 (i 0).val

/-- The number of the point's block of codes, `s % 4`, as the kernel computes it. -/
abbrev jw (i : grid0.Coords) : BitVec 32 :=
  Scalar.select (Scalar.andi (Scalar.xori (Scalar.cmpi .slt (Scalar.remsi (word i) (Scalar.select (Scalar.cmpi .eq 4#32 0#32) 1#32 4#32)) 0#32)
      (Scalar.cmpi .slt (Scalar.select (Scalar.cmpi .eq 4#32 0#32) 1#32 4#32) 0#32))
    (Scalar.cmpi .ne (Scalar.remsi (word i) (Scalar.select (Scalar.cmpi .eq 4#32 0#32) 1#32 4#32)) 0#32))
    (Scalar.addi (Scalar.remsi (word i) (Scalar.select (Scalar.cmpi .eq 4#32 0#32) 1#32 4#32)) (Scalar.select (Scalar.cmpi .eq 4#32 0#32) 1#32 4#32))
    (Scalar.remsi (word i) (Scalar.select (Scalar.cmpi .eq 4#32 0#32) 1#32 4#32))

/-- The kernel's tests of the point: the first point; the first block of codes; a later block of codes. -/
abbrev isFirst (i : grid0.Coords) : BitVec 1 := Scalar.cmpi .ne (Scalar.extui (Scalar.cmpi .eq (word i) 0#32) : BitVec 32) 0#32
abbrev isInit (i : grid0.Coords) : BitVec 1 := Scalar.cmpi .ne (Scalar.extui (Scalar.cmpi .eq (jw i) 0#32) : BitVec 32) 0#32
abbrev isLater (i : grid0.Coords) : BitVec 1 := Scalar.cmpi .ne (Scalar.extui (Scalar.cmpi .sgt (jw i) 0#32) : BitVec 32) 0#32

/-- What the nine scratch buffers hold: the column means and variances, the current block of normalised rows times −2 with
    its squared norms, the running minimum and its index, and the codes with their squared norms and the index row. -/
structure Scr (F : FTy → Type) where
  mean : Vec F S1x256 .f32
  var : Vec F S1x256 .f32
  xnb : Vec F S1024x256 .bf16
  rn : Vec F S1024x1 .f32
  bv : Vec F S1024x1 .f32
  bi : Vec F S1024x1 .i32
  ebf : Vec F S8192x256 .bf16
  esq : Vec F S1x8192 .f32
  ids : Vec F S1x2048 .f32

/-- The scratch after the first point's preparation. -/
def Scr.start (x e : Vec F S8192x256 .f32) (S : Scr F) : Scr F :=
  { S with mean := k0_pay10 x, var := k0_pay11 x, ebf := k0_pay12 e, esq := k0_pay13 e, ids := k0_pay14 }

/-- The scratch after a new block of rows has been normalised. -/
def Scr.rows (i : grid0.Coords) (h2 : k0_cond2 i = 1#1) (x : Vec F S8192x256 .f32) (S : Scr F) : Scr F :=
  { S with
    xnb := k0_pay16 (View.ld x (Rect.unit (s := S8192x256) (k0_off1 i) S1024x256.size (k0_off1_inb i h2))) S.mean S.var
    rn := k0_pay17 (View.ld x (Rect.unit (s := S8192x256) (k0_off1 i) S1024x256.size (k0_off1_inb i h2))) S.mean S.var }

/-- The codes of the point's block. -/
abbrev Scr.eblk (i : grid0.Coords) (S : Scr F) : Vec F S2048x256 .bf16 :=
  View.ld S.ebf (Rect.unit (s := S8192x256) (k0_off2 i) S2048x256.size (k0_off2_inb i))

/-- Their squared norms. -/
abbrev Scr.qblk (i : grid0.Coords) (S : Scr F) : Vec F S1x2048 .f32 :=
  View.ld S.esq (Rect.unit (s := S1x8192) (k0_off3 i) S1x2048.size (k0_off3_inb i))

/-- The scratch after the first block of codes. -/
def Scr.init (i : grid0.Coords) (S : Scr F) : Scr F :=
  { S with
    bv := k0_pay4 S.xnb (S.eblk i) S.rn (S.qblk i)
    bi := k0_pay5 (jw i) S.xnb (S.eblk i) S.rn (S.qblk i) S.ids }

/-- The scratch after a later block of codes. -/
def Scr.later (i : grid0.Coords) (S : Scr F) : Scr F :=
  { S with
    bv := k0_pay7 S.xnb (S.eblk i) S.rn (S.qblk i) S.bv S.bv
    bi := k0_pay8 (jw i) S.xnb (S.eblk i) S.rn (S.qblk i) S.ids S.bv S.bi }

/-! A load of a whole buffer reads its contents. -/

theorem ld_rows (X : Vec F S1024x256 .bf16) (inb) : View.ld X (Rect.unit (s := S1024x256) ![0, 0] ![1024, 256] inb) = X :=
  View.ld_unit_zero (S := S1024x256) (by funext a; fin_cases a <;> rfl) inb X

theorem ld_col {t : EltTy} (X : Vec F S1024x1 t) (inb) : View.ld X (Rect.unit (s := S1024x1) ![0, 0] ![1024, 1] inb) = X :=
  View.ld_unit_zero (S := S1024x1) (by funext a; fin_cases a <;> rfl) inb X

theorem ld_ids (X : Vec F S1x2048 .f32) (inb) : View.ld X (Rect.unit (s := S1x2048) ![0, 0] ![1, 2048] inb) = X :=
  View.ld_unit_zero (S := S1x2048) (by funext a; fin_cases a <;> rfl) inb X

theorem ld_stat (X : Vec F S1x256 .f32) (inb) : View.ld X (Rect.unit (s := S1x256) ![0, 0] ![1, 256] inb) = X :=
  View.ld_unit_zero (S := S1x256) (by funext a; fin_cases a <;> rfl) inb X

theorem ld_array (X : Vec F S8192x256 .f32) (inb) : View.ld X (Rect.unit (s := S8192x256) ![0, 0] ![8192, 256] inb) = X :=
  View.ld_unit_zero (S := S8192x256) (by funext a; fin_cases a <;> rfl) inb X

/-! A load of a buffer that has been stored whole reads the payload. -/

section Covered

variable {sig' : RefSig} {κ : Kind} {sp : Space}

theorem cov_full {s : Shape} {t : EltTy} (v : View sig' κ sp s t) {off : Fin s.rank → ℕ} (inb : ∀ a, off a + s.size a ≤ s.size a)
    (w : s.Idx → Elt F t) (L : List (View.Piece (Elt F) s t)) (r : Rect s) :
    v.readCov (⟨Rect.unit off s.size inb, w⟩ :: L) r.toLoadRect = View.ld w r :=
  congrArg (View.ld · r) (View.read_writes_full v v.junk inb w L)

theorem cov_rows (v : View sig' κ sp S1024x256 .bf16) (inb) (w : Vec F S1024x256 .bf16) (L) (r : Rect S1024x256) :
    v.readCov (⟨Rect.unit (s := S1024x256) ![0, 0] ![1024, 256] inb, w⟩ :: L) r.toLoadRect = View.ld w r := cov_full v inb w L r

theorem cov_col (v : View sig' κ sp S1024x1 .f32) (inb) (w : Vec F S1024x1 .f32) (L) (r : Rect S1024x1) :
    v.readCov (⟨Rect.unit (s := S1024x1) ![0, 0] ![1024, 1] inb, w⟩ :: L) r.toLoadRect = View.ld w r := cov_full v inb w L r

theorem cov_icol (v : View sig' κ sp S1024x1 .i32) (inb) (w : Vec F S1024x1 .i32) (L) (r : Rect S1024x1) :
    v.readCov (⟨Rect.unit (s := S1024x1) ![0, 0] ![1024, 1] inb, w⟩ :: L) r.toLoadRect = View.ld w r := cov_full v inb w L r

theorem cov_stat (v : View sig' κ sp S1x256 .f32) (inb) (w : Vec F S1x256 .f32) (L) (r : Rect S1x256) :
    v.readCov (⟨Rect.unit (s := S1x256) ![0, 0] ![1, 256] inb, w⟩ :: L) r.toLoadRect = View.ld w r := cov_full v inb w L r

theorem cov_codes (v : View sig' κ sp S8192x256 .bf16) (inb) (w : Vec F S8192x256 .bf16) (L) (r : Rect S8192x256) :
    v.readCov (⟨Rect.unit (s := S8192x256) ![0, 0] ![8192, 256] inb, w⟩ :: L) r.toLoadRect = View.ld w r := cov_full v inb w L r

theorem cov_norms (v : View sig' κ sp S1x8192 .f32) (inb) (w : Vec F S1x8192 .f32) (L) (r : Rect S1x8192) :
    v.readCov (⟨Rect.unit (s := S1x8192) ![0, 0] ![1, 8192] inb, w⟩ :: L) r.toLoadRect = View.ld w r := cov_full v inb w L r

theorem cov_ids (v : View sig' κ sp S1x2048 .f32) (inb) (w : Vec F S1x2048 .f32) (L) (r : Rect S1x2048) :
    v.readCov (⟨Rect.unit (s := S1x2048) ![0, 0] ![1, 2048] inb, w⟩ :: L) r.toLoadRect = View.ld w r := cov_full v inb w L r

end Covered

theorem read_codes {sig' : RefSig} {κ : Kind} {sp : Space} (v : View sig' κ sp S8192x256 .bf16) (f) (inb) (w : Vec F S8192x256 .bf16)
    (L : List (View.Piece (Elt F) S8192x256 .bf16)) :
    v.read (Elt F) (v.writes (Elt F) f (⟨Rect.unit (s := S8192x256) ![0, 0] ![8192, 256] inb, w⟩ :: L)) = w := View.read_writes_full v f inb w L

theorem read_norms {sig' : RefSig} {κ : Kind} {sp : Space} (v : View sig' κ sp S1x8192 .f32) (f) (inb) (w : Vec F S1x8192 .f32)
    (L : List (View.Piece (Elt F) S1x8192 .f32)) :
    v.read (Elt F) (v.writes (Elt F) f (⟨Rect.unit (s := S1x8192) ![0, 0] ![1, 8192] inb, w⟩ :: L)) = w := View.read_writes_full v f inb w L

/-! The offsets of the point's blocks, in closed form. -/

theorem off1_eq : ∀ i : grid0.Coords, k0_off1 i = ![(i 0).val / 4 * 1024, 0] := by decide +kernel
theorem off2_eq : ∀ i : grid0.Coords, k0_off2 i = ![(i 0).val % 4 * 2048, 0] := by decide +kernel
theorem off3_eq : ∀ i : grid0.Coords, k0_off3 i = ![0, (i 0).val % 4 * 2048] := by decide +kernel
theorem off4_eq : ∀ i : grid0.Coords, k0_off4 i = ![(i 0).val / 4 * 1024, 0] := by decide +kernel

instance (i : grid0.Coords) : ClosedOff (k0_off1 i) := ⟨_, off1_eq i⟩
instance (i : grid0.Coords) : ClosedOff (k0_off2 i) := ⟨_, off2_eq i⟩
instance (i : grid0.Coords) : ClosedOff (k0_off3 i) := ⟨_, off3_eq i⟩
instance (i : grid0.Coords) : ClosedOff (k0_off4 i) := ⟨_, off4_eq i⟩

variable (c : Dev nD) (i : grid0.Coords)

section Run

variable
  (arg1 : Memref sig .tc .vmem S8192x256 .f32) (harg1 : arg1.IsWhole)
  (arg2 : Memref sig .tc .vmem S8192x256 .f32) (harg2 : arg2.IsWhole)
  (arg3 : Memref sig .tc .vmem S8192x1 .i32) (harg3 : arg3.IsWhole)
  (arg4 : Memref sig .tc .vmem S1x256 .f32) (harg4 : arg4.IsWhole)
  (arg5 : Memref sig .tc .vmem S1x256 .f32) (harg5 : arg5.IsWhole)
  (arg6 : Memref sig .tc .vmem S1024x256 .bf16) (harg6 : arg6.IsWhole)
  (arg7 : Memref sig .tc .vmem S1024x1 .f32) (harg7 : arg7.IsWhole)
  (arg8 : Memref sig .tc .vmem S1024x1 .f32) (harg8 : arg8.IsWhole)
  (arg9 : Memref sig .tc .vmem S1024x1 .i32) (harg9 : arg9.IsWhole)
  (arg10 : Memref sig .tc .vmem S8192x256 .bf16) (harg10 : arg10.IsWhole)
  (arg11 : Memref sig .tc .vmem S1x8192 .f32) (harg11 : arg11.IsWhole)
  (arg12 : Memref sig .tc .vmem S1x2048 .f32) (harg12 : arg12.IsWhole)

/-- The scratch buffers at `S`. -/
def held (S : Scr F) : sProp 𝕄 :=
  iprop(owns (c : Thread nD τ) arg4 fullShare S.mean ∗ owns (c : Thread nD τ) arg5 fullShare S.var ∗ owns (c : Thread nD τ) arg6 fullShare S.xnb ∗ owns (c : Thread nD τ) arg7 fullShare S.rn ∗ owns (c : Thread nD τ) arg8 fullShare S.bv ∗ owns (c : Thread nD τ) arg9 fullShare S.bi ∗ owns (c : Thread nD τ) arg10 fullShare S.ebf ∗ owns (c : Thread nD τ) arg11 fullShare S.esq ∗ owns (c : Thread nD τ) arg12 fullShare S.ids)

set_option maxHeartbeats 1000000 in
/-- A later block of codes, not the last. -/
theorem runC (h1 : ¬ isFirst i = 1#1) (h2 : ¬ k0_cond2 i = 1#1) (h3 : ¬ isInit i = 1#1) (h4 : isLater i = 1#1) (h5 : ¬ k0_cond5 i = 1#1)
    (x e : Vec F S8192x256 .f32) (o : Vec F S8192x1 .i32) (S : Scr F) (K : PUnit → sProp 𝕄) :
    iprop(owns (c : Thread nD τ) arg1 fullShare x ∗ owns (c : Thread nD τ) arg2 fullShare e ∗ owns (c : Thread nD τ) arg3 fullShare o
        ∗ held c arg4 arg5 arg6 arg7 arg8 arg9 arg10 arg11 arg12 S
        ∗ (iprop(owns (c : Thread nD τ) arg1 fullShare x ∗ owns (c : Thread nD τ) arg2 fullShare e ∗ owns (c : Thread nD τ) arg3 fullShare o
          ∗ held c arg4 arg5 arg6 arg7 arg8 arg9 arg10 arg11 arg12 (S.later i)) -∗ K ⟨⟩))
      ⊢ wp frame (wpE (defs₀ (F := F)) Variants.none c none) Set.univ
          (cc0__vq_kernel i arg1 harg1 arg2 harg2 arg3 harg3 arg4 harg4 arg5 harg5 arg6 harg6 arg7 harg7 arg8 harg8 arg9 harg9 arg10 harg10 arg11 harg11 arg12 harg12) K := by
  simp only [cc0__vq_kernel_eq_skeleton]; unfold cc0__vq_kernel_skel
  simp only [k0_part1_eq_skeleton]; unfold k0_part1_skel
  unfold held owns
  iintro ⟨⟨%f1, %hf1, H1⟩, ⟨%f2, %hf2, H2⟩, ⟨%f3, %hf3, H3⟩, ⟨⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, Hk⟩
  sl_exec
  sl_step
  iapply Hk
  isplitl [H1]
  · iexists _; isplitr; swap; iexact H1; ipureintro; exact hf1
  isplitl [H2]
  · iexists _; isplitr; swap; iexact H2; ipureintro; exact hf2
  isplitl [H3]
  · iexists _; isplitr; swap; iexact H3; ipureintro; exact hf3
  isplitl [H4]
  · iexists _; isplitr; swap; iexact H4; ipureintro; exact hf4
  isplitl [H5]
  · iexists _; isplitr; swap; iexact H5; ipureintro; exact hf5
  isplitl [H6]
  · iexists _; isplitr; swap; iexact H6; ipureintro; exact hf6
  isplitl [H7]
  · iexists _; isplitr; swap; iexact H7; ipureintro; exact hf7
  isplitl [H8]
  · iexists _; isplitr; swap; iexact H8; ipureintro; refine (View.read_writes_full _ _ _ _ _).trans ?_; simp only [cov_rows, cov_col, cov_stat, cov_codes, cov_norms, cov_ids, View.readAt_eq_ld, read_codes, read_norms, hf1, hf2, hf4, hf5, hf6, hf7, hf8, hf9, hf10, hf11, hf12, ld_rows, ld_col, ld_ids, ld_stat, ld_array]; rfl
  isplitl [H9]
  · iexists _; isplitr; swap; iexact H9; ipureintro; refine (View.read_writes_full _ _ _ _ _).trans ?_; simp only [cov_rows, cov_col, cov_stat, cov_codes, cov_norms, cov_ids, View.readAt_eq_ld, read_codes, read_norms, hf1, hf2, hf4, hf5, hf6, hf7, hf8, hf9, hf10, hf11, hf12, ld_rows, ld_col, ld_ids, ld_stat, ld_array]; rfl
  isplitl [H10]
  · iexists _; isplitr; swap; iexact H10; ipureintro; exact hf10
  isplitl [H11]
  · iexists _; isplitr; swap; iexact H11; ipureintro; exact hf11
  iexists _; isplitr; swap; iexact H12; ipureintro; exact hf12

set_option maxHeartbeats 1000000 in
/-- The first block of codes of a later block of rows. -/
theorem runB (h1 : ¬ isFirst i = 1#1) (h2 : k0_cond2 i = 1#1) (h3 : isInit i = 1#1) (h4 : ¬ isLater i = 1#1) (h5 : ¬ k0_cond5 i = 1#1)
    (x e : Vec F S8192x256 .f32) (o : Vec F S8192x1 .i32) (S : Scr F) (K : PUnit → sProp 𝕄) :
    iprop(owns (c : Thread nD τ) arg1 fullShare x ∗ owns (c : Thread nD τ) arg2 fullShare e ∗ owns (c : Thread nD τ) arg3 fullShare o
        ∗ held c arg4 arg5 arg6 arg7 arg8 arg9 arg10 arg11 arg12 S
        ∗ (iprop(owns (c : Thread nD τ) arg1 fullShare x ∗ owns (c : Thread nD τ) arg2 fullShare e ∗ owns (c : Thread nD τ) arg3 fullShare o
          ∗ held c arg4 arg5 arg6 arg7 arg8 arg9 arg10 arg11 arg12 ((S.rows i h2 x).init i)) -∗ K ⟨⟩))
      ⊢ wp frame (wpE (defs₀ (F := F)) Variants.none c none) Set.univ
          (cc0__vq_kernel i arg1 harg1 arg2 harg2 arg3 harg3 arg4 harg4 arg5 harg5 arg6 harg6 arg7 harg7 arg8 harg8 arg9 harg9 arg10 harg10 arg11 harg11 arg12 harg12) K := by
  simp only [cc0__vq_kernel_eq_skeleton]; unfold cc0__vq_kernel_skel
  simp only [k0_part1_eq_skeleton]; unfold k0_part1_skel
  unfold held owns
  iintro ⟨⟨%f1, %hf1, H1⟩, ⟨%f2, %hf2, H2⟩, ⟨%f3, %hf3, H3⟩, ⟨⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, Hk⟩
  sl_exec
  sl_step
  iapply Hk
  isplitl [H1]
  · iexists _; isplitr; swap; iexact H1; ipureintro; exact hf1
  isplitl [H2]
  · iexists _; isplitr; swap; iexact H2; ipureintro; exact hf2
  isplitl [H3]
  · iexists _; isplitr; swap; iexact H3; ipureintro; exact hf3
  isplitl [H4]
  · iexists _; isplitr; swap; iexact H4; ipureintro; exact hf4
  isplitl [H5]
  · iexists _; isplitr; swap; iexact H5; ipureintro; exact hf5
  isplitl [H6]
  · iexists _; isplitr; swap; iexact H6; ipureintro; refine (View.read_writes_full _ _ _ _ _).trans ?_; simp only [View.readAt_eq_ld, hf1, hf4, hf5, ld_stat]; rfl
  isplitl [H7]
  · iexists _; isplitr; swap; iexact H7; ipureintro; refine (View.read_writes_full _ _ _ _ _).trans ?_; simp only [View.readAt_eq_ld, hf1, hf4, hf5, ld_stat]; rfl
  isplitl [H8]
  · iexists _; isplitr; swap; iexact H8; ipureintro; refine (View.read_writes_full _ _ _ _ _).trans ?_; delta runB.sl.v33 runB.sl.v38 runB.sl.H6_1 runB.sl.H7_1; simp only [cov_rows, cov_col, cov_stat, cov_codes, cov_norms, cov_ids, View.readAt_eq_ld, read_codes, read_norms, hf1, hf2, hf4, hf5, hf6, hf7, hf8, hf9, hf10, hf11, hf12, ld_rows, ld_col, ld_ids, ld_stat, ld_array]; rfl
  isplitl [H9]
  · iexists _; isplitr; swap; iexact H9; ipureintro; refine (View.read_writes_full _ _ _ _ _).trans ?_; delta runB.sl.v33 runB.sl.v38 runB.sl.H6_1 runB.sl.H7_1; simp only [cov_rows, cov_col, cov_stat, cov_codes, cov_norms, cov_ids, View.readAt_eq_ld, read_codes, read_norms, hf1, hf2, hf4, hf5, hf6, hf7, hf8, hf9, hf10, hf11, hf12, ld_rows, ld_col, ld_ids, ld_stat, ld_array]; rfl
  isplitl [H10]
  · iexists _; isplitr; swap; iexact H10; ipureintro; exact hf10
  isplitl [H11]
  · iexists _; isplitr; swap; iexact H11; ipureintro; exact hf11
  iexists _; isplitr; swap; iexact H12; ipureintro; exact hf12

set_option maxHeartbeats 1000000 in
/-- The first point. -/
theorem runA (h1 : isFirst i = 1#1) (h2 : k0_cond2 i = 1#1) (h3 : isInit i = 1#1) (h4 : ¬ isLater i = 1#1) (h5 : ¬ k0_cond5 i = 1#1)
    (x e : Vec F S8192x256 .f32) (o : Vec F S8192x1 .i32) (S : Scr F) (K : PUnit → sProp 𝕄) :
    iprop(owns (c : Thread nD τ) arg1 fullShare x ∗ owns (c : Thread nD τ) arg2 fullShare e ∗ owns (c : Thread nD τ) arg3 fullShare o
        ∗ held c arg4 arg5 arg6 arg7 arg8 arg9 arg10 arg11 arg12 S
        ∗ (iprop(owns (c : Thread nD τ) arg1 fullShare x ∗ owns (c : Thread nD τ) arg2 fullShare e ∗ owns (c : Thread nD τ) arg3 fullShare o
          ∗ held c arg4 arg5 arg6 arg7 arg8 arg9 arg10 arg11 arg12 (((S.start x e).rows i h2 x).init i)) -∗ K ⟨⟩))
      ⊢ wp frame (wpE (defs₀ (F := F)) Variants.none c none) Set.univ
          (cc0__vq_kernel i arg1 harg1 arg2 harg2 arg3 harg3 arg4 harg4 arg5 harg5 arg6 harg6 arg7 harg7 arg8 harg8 arg9 harg9 arg10 harg10 arg11 harg11 arg12 harg12) K := by
  simp only [cc0__vq_kernel_eq_skeleton]; unfold cc0__vq_kernel_skel
  simp only [k0_part1_eq_skeleton]; unfold k0_part1_skel
  unfold held owns
  iintro ⟨⟨%f1, %hf1, H1⟩, ⟨%f2, %hf2, H2⟩, ⟨%f3, %hf3, H3⟩, ⟨⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, Hk⟩
  sl_exec
  sl_step
  iapply Hk
  isplitl [H1]
  · iexists _; isplitr; swap; iexact H1; ipureintro; exact hf1
  isplitl [H2]
  · iexists _; isplitr; swap; iexact H2; ipureintro; exact hf2
  isplitl [H3]
  · iexists _; isplitr; swap; iexact H3; ipureintro; exact hf3
  isplitl [H4]
  · iexists _; isplitr; swap; iexact H4; ipureintro; exact (View.read_writes_full _ _ _ _ _).trans (by simp only [View.readAt_eq_ld, hf1, hf2, ld_array]; rfl)
  isplitl [H5]
  · iexists _; isplitr; swap; iexact H5; ipureintro; exact (View.read_writes_full _ _ _ _ _).trans (by simp only [View.readAt_eq_ld, hf1, hf2, ld_array]; rfl)
  isplitl [H6]
  · iexists _; isplitr; swap; iexact H6; ipureintro; refine (View.read_writes_full _ _ _ _ _).trans ?_; delta runA.sl.v73 runA.sl.v76 runA.sl.H4_1 runA.sl.H5_1; simp only [cov_stat, View.readAt_eq_ld, hf1, ld_stat, ld_array]; rfl
  isplitl [H7]
  · iexists _; isplitr; swap; iexact H7; ipureintro; refine (View.read_writes_full _ _ _ _ _).trans ?_; delta runA.sl.v73 runA.sl.v76 runA.sl.H4_1 runA.sl.H5_1; simp only [cov_stat, View.readAt_eq_ld, hf1, ld_stat, ld_array]; rfl
  isplitl [H8]
  · iexists _; isplitr; swap; iexact H8; ipureintro; refine (View.read_writes_full _ _ _ _ _).trans ?_; (try delta runA.sl.v33); (try delta runA.sl.v38); (try delta runA.sl.v36); (try delta runA.sl.v41); (try delta runA.sl.v50); (try delta runA.sl.H6_1); (try delta runA.sl.H7_1); (try delta runA.sl.H10_1); (try delta runA.sl.H11_1); (try delta runA.sl.H12_1); (try delta runA.sl.v73); (try delta runA.sl.v76); (try delta runA.sl.H4_1); (try delta runA.sl.H5_1); simp only [cov_rows, cov_col, cov_stat, cov_codes, cov_norms, cov_ids, View.readAt_eq_ld, read_codes, read_norms, hf1, hf2, hf4, hf5, hf6, hf7, hf8, hf9, hf10, hf11, hf12, ld_rows, ld_col, ld_ids, ld_stat, ld_array]; rfl
  isplitl [H9]
  · iexists _; isplitr; swap; iexact H9; ipureintro; refine (View.read_writes_full _ _ _ _ _).trans ?_; (try delta runA.sl.v33); (try delta runA.sl.v38); (try delta runA.sl.v36); (try delta runA.sl.v41); (try delta runA.sl.v50); (try delta runA.sl.H6_1); (try delta runA.sl.H7_1); (try delta runA.sl.H10_1); (try delta runA.sl.H11_1); (try delta runA.sl.H12_1); (try delta runA.sl.v73); (try delta runA.sl.v76); (try delta runA.sl.H4_1); (try delta runA.sl.H5_1); simp only [cov_rows, cov_col, cov_stat, cov_codes, cov_norms, cov_ids, View.readAt_eq_ld, read_codes, read_norms, hf1, hf2, hf4, hf5, hf6, hf7, hf8, hf9, hf10, hf11, hf12, ld_rows, ld_col, ld_ids, ld_stat, ld_array]; rfl
  isplitl [H10]
  · iexists _; isplitr; swap; iexact H10; ipureintro; exact (View.read_writes_full _ _ _ _ _).trans (by simp only [View.readAt_eq_ld, hf1, hf2, ld_array]; rfl)
  isplitl [H11]
  · iexists _; isplitr; swap; iexact H11; ipureintro; exact (View.read_writes_full _ _ _ _ _).trans (by simp only [View.readAt_eq_ld, hf1, hf2, ld_array]; rfl)
  iexists _; isplitr; swap; iexact H12; ipureintro; exact View.read_writes_full _ _ _ _ _

set_option maxHeartbeats 1000000 in
/-- The last block of codes. -/
theorem runD (h1 : ¬ isFirst i = 1#1) (h2 : ¬ k0_cond2 i = 1#1) (h3 : ¬ isInit i = 1#1) (h4 : isLater i = 1#1) (h5 : k0_cond5 i = 1#1)
    (x e : Vec F S8192x256 .f32) (o : Vec F S8192x1 .i32) (S : Scr F) (K : PUnit → sProp 𝕄) :
    iprop(owns (c : Thread nD τ) arg1 fullShare x ∗ owns (c : Thread nD τ) arg2 fullShare e ∗ owns (c : Thread nD τ) arg3 fullShare o
        ∗ held c arg4 arg5 arg6 arg7 arg8 arg9 arg10 arg11 arg12 S
        ∗ (iprop(owns (c : Thread nD τ) arg1 fullShare x ∗ owns (c : Thread nD τ) arg2 fullShare e ∗ owns (c : Thread nD τ) arg3 fullShare (VecWindow.put o (k0_off4 i) S1024x1.size (S.later i).bi)
          ∗ held c arg4 arg5 arg6 arg7 arg8 arg9 arg10 arg11 arg12 (S.later i)) -∗ K ⟨⟩))
      ⊢ wp frame (wpE (defs₀ (F := F)) Variants.none c none) Set.univ
          (cc0__vq_kernel i arg1 harg1 arg2 harg2 arg3 harg3 arg4 harg4 arg5 harg5 arg6 harg6 arg7 harg7 arg8 harg8 arg9 harg9 arg10 harg10 arg11 harg11 arg12 harg12) K := by
  simp only [cc0__vq_kernel_eq_skeleton]; unfold cc0__vq_kernel_skel
  simp only [k0_part1_eq_skeleton]; unfold k0_part1_skel
  unfold held owns
  iintro ⟨⟨%f1, %hf1, H1⟩, ⟨%f2, %hf2, H2⟩, ⟨%f3, %hf3, H3⟩, ⟨⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, Hk⟩
  sl_exec
  sl_step
  iapply Hk
  isplitl [H1]
  · iexists _; isplitr; swap; iexact H1; ipureintro; exact hf1
  isplitl [H2]
  · iexists _; isplitr; swap; iexact H2; ipureintro; exact hf2
  isplitl [H3]
  · iexists _; isplitr; swap; iexact H3; ipureintro; refine (View.read_writes_cons_put _ _ _ _ [] rfl).trans ?_; delta runD.sl.v70 runD.sl.H9_1; rw [View.writes_nil, hf3]; simp only [cov_icol, ld_col, View.readAt_eq_ld, hf6, hf7, hf8, hf9, hf10, hf11, hf12, ld_rows, ld_ids]; rfl
  isplitl [H4]
  · iexists _; isplitr; swap; iexact H4; ipureintro; exact hf4
  isplitl [H5]
  · iexists _; isplitr; swap; iexact H5; ipureintro; exact hf5
  isplitl [H6]
  · iexists _; isplitr; swap; iexact H6; ipureintro; exact hf6
  isplitl [H7]
  · iexists _; isplitr; swap; iexact H7; ipureintro; exact hf7
  isplitl [H8]
  · iexists _; isplitr; swap; iexact H8; ipureintro; refine (View.read_writes_full _ _ _ _ _).trans ?_; simp only [cov_rows, cov_col, cov_stat, cov_codes, cov_norms, cov_ids, View.readAt_eq_ld, read_codes, read_norms, hf1, hf2, hf4, hf5, hf6, hf7, hf8, hf9, hf10, hf11, hf12, ld_rows, ld_col, ld_ids, ld_stat, ld_array]; rfl
  isplitl [H9]
  · iexists _; isplitr; swap; iexact H9; ipureintro; refine (View.read_writes_full _ _ _ _ _).trans ?_; simp only [cov_rows, cov_col, cov_stat, cov_codes, cov_norms, cov_ids, View.readAt_eq_ld, read_codes, read_norms, hf1, hf2, hf4, hf5, hf6, hf7, hf8, hf9, hf10, hf11, hf12, ld_rows, ld_col, ld_ids, ld_stat, ld_array]; rfl
  isplitl [H10]
  · iexists _; isplitr; swap; iexact H10; ipureintro; exact hf10
  isplitl [H11]
  · iexists _; isplitr; swap; iexact H11; ipureintro; exact hf11
  iexists _; isplitr; swap; iexact H12; ipureintro; exact hf12

end Run

end Cert.KernelIdeal.Hand

end
-- ==== Proof.Data.lean ====
module

public import proofs.«01_k».proof.Proof.Body
public import Idealize.ShloMosaic.Lib.Pipeline.ValueKit

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## What the kernel computes, block by block -/

section Values

variable (x e : Vec F S8192x256 .f32)

/-- Rows `[1024 i, 1024 (i + 1))` of the input. -/
def rowsOf (i : ℕ) : Vec F S1024x256 .f32 :=
  View.ld x (Rect.unit (s := S8192x256) ![i % 8 * 1024, 0] S1024x256.size
    (by intro a; fin_cases a <;> simp [Shape.size] <;> omega))

/-- Codes `[2048 j, 2048 (j + 1))`, as the kernel stores them. -/
def codesOf (j : ℕ) : Vec F S2048x256 .bf16 :=
  View.ld (k0_pay12 e) (Rect.unit (s := S8192x256) ![j % 4 * 2048, 0] S2048x256.size
    (by intro a; fin_cases a <;> simp [Shape.size] <;> omega))

/-- Their squared norms. -/
def normsOf (j : ℕ) : Vec F S1x2048 .f32 :=
  View.ld (k0_pay13 e) (Rect.unit (s := S1x8192) ![0, j % 4 * 2048] S1x2048.size
    (by intro a; fin_cases a <;> simp [Shape.size] <;> omega))

/-- The normalised rows of block `i`, times −2. -/
def xnOf (i : ℕ) : Vec F S1024x256 .bf16 := k0_pay16 (rowsOf x i) (k0_pay10 x) (k0_pay11 x)

/-- Their squared norms. -/
def rnOf (i : ℕ) : Vec F S1024x1 .f32 := k0_pay17 (rowsOf x i) (k0_pay10 x) (k0_pay11 x)

/-- The running minimum of the distances of row block `i`, and its index, over the code blocks `0 … j`. -/
def best (i : ℕ) : ℕ → Vec F S1024x1 .f32 × Vec F S1024x1 .i32
  | 0 => (k0_pay4 (xnOf x i) (codesOf e 0) (rnOf x i) (normsOf e 0),
      k0_pay5 (BitVec.ofNat 32 0) (xnOf x i) (codesOf e 0) (rnOf x i) (normsOf e 0) k0_pay14)
  | j + 1 => (k0_pay7 (xnOf x i) (codesOf e (j + 1)) (rnOf x i) (normsOf e (j + 1)) (best i j).1 (best i j).1,
      k0_pay8 (BitVec.ofNat 32 (j + 1)) (xnOf x i) (codesOf e (j + 1)) (rnOf x i) (normsOf e (j + 1)) k0_pay14 (best i j).1 (best i j).2)

end Values

/-- What the scratch holds before point `t`: nothing is said before the first point; later the prepared codes and statistics,
    the row block of the point before, and the running minimum over the code blocks it has gone through. -/
def Inv (x e : Vec F S8192x256 .f32) : ℕ → Scr F → Prop
  | 0, _ => True
  | n + 1, S => (S.mean = k0_pay10 x ∧ S.var = k0_pay11 x ∧ S.ebf = k0_pay12 e ∧ S.esq = k0_pay13 e ∧ S.ids = k0_pay14)
      ∧ (S.xnb = xnOf x (n / 4) ∧ S.rn = rnOf x (n / 4))
      ∧ S.bv = (best x e (n / 4) (n % 4)).1 ∧ S.bi = (best x e (n / 4) (n % 4)).2

/-! ## The conditions at a point -/

theorem isFirst_iff : ∀ i : grid0.Coords, isFirst i = 1#1 ↔ (i 0).val = 0 := by decide +kernel
theorem cond2_iff : ∀ i : grid0.Coords, k0_cond2 i = 1#1 ↔ (i 0).val % 4 = 0 := by decide +kernel
theorem isInit_iff : ∀ i : grid0.Coords, isInit i = 1#1 ↔ (i 0).val % 4 = 0 := by decide +kernel
theorem isLater_iff : ∀ i : grid0.Coords, isLater i = 1#1 ↔ (i 0).val % 4 ≠ 0 := by decide +kernel
theorem cond5_iff : ∀ i : grid0.Coords, k0_cond5 i = 1#1 ↔ (i 0).val % 4 = 3 := by decide +kernel
theorem jw_eq : ∀ i : grid0.Coords, jw i = BitVec.ofNat 32 ((i 0).val % 4) := by decide +kernel
theorem coords_val : ∀ t : Fin grid0.N, ((grid0.coords t) 0).val = t.val := by decide +kernel

/-- A load depends on its offsets only by value. -/
theorem ld_off {s : Shape} {t : EltTy} (X : s.Idx → Elt F t) {off off' size : Fin s.rank → ℕ} (h : off = off')
    (inb : ∀ a, off a + size a ≤ s.size a) (inb' : ∀ a, off' a + size a ≤ s.size a) :
    View.ld X (Rect.unit off size inb) = View.ld X (Rect.unit off' size inb') := by subst h; rfl

section Steps

variable {x e : Vec F S8192x256 .f32} {i : grid0.Coords} {S : Scr F}

theorem rows_of_point (h2 : k0_cond2 i = 1#1) :
    View.ld x (Rect.unit (s := S8192x256) (k0_off1 i) S1024x256.size (k0_off1_inb i h2)) = rowsOf x ((i 0).val / 4) :=
  ld_off x ((off1_eq i).trans (by rw [Nat.mod_eq_of_lt]; exact Nat.div_lt_of_lt_mul (i 0).isLt)) _ _

theorem codes_of_point (h : S.ebf = k0_pay12 e) : S.eblk i = codesOf e ((i 0).val % 4) := by
  unfold Scr.eblk; rw [h]
  exact ld_off _ ((off2_eq i).trans (by rw [Nat.mod_mod])) _ _

theorem norms_of_point (h : S.esq = k0_pay13 e) : S.qblk i = normsOf e ((i 0).val % 4) := by
  unfold Scr.qblk; rw [h]
  exact ld_off _ ((off3_eq i).trans (by rw [Nat.mod_mod])) _ _

/-- The first point establishes the invariant. -/
theorem inv_first (h0 : (i 0).val = 0) (h2 : k0_cond2 i = 1#1) : Inv x e ((i 0).val + 1) (((S.start x e).rows i h2 x).init i) := by
  refine ⟨⟨rfl, rfl, rfl, rfl, rfl⟩, ⟨?_, ?_⟩, ?_, ?_⟩
  all_goals simp only [Scr.init, Scr.rows]
  all_goals (try rw [codes_of_point (e := e) rfl, norms_of_point (e := e) rfl])
  all_goals (rw [rows_of_point h2]; simp only [jw_eq, h0]; rfl)

/-- A point that starts a block of rows keeps it. -/
theorem inv_init {n : ℕ} (hn : (i 0).val = n + 1) (h0 : (i 0).val % 4 = 0) (h2 : k0_cond2 i = 1#1) (h : Inv x e (n + 1) S) :
    Inv x e ((i 0).val + 1) ((S.rows i h2 x).init i) := by
  obtain ⟨⟨hm, hv, hb, hq, hi⟩, -, -⟩ := h
  refine ⟨⟨hm, hv, hb, hq, hi⟩, ⟨?_, ?_⟩, ?_, ?_⟩
  all_goals simp only [Scr.init, Scr.rows]
  all_goals (try rw [codes_of_point (e := e) hb, norms_of_point (e := e) hq])
  all_goals (rw [rows_of_point h2]; simp only [jw_eq, h0, hm, hv, hi]; rfl)

/-- A point that goes on with a block of rows keeps it. -/
theorem inv_later {n : ℕ} (hn : (i 0).val = n + 1) (h0 : (i 0).val % 4 ≠ 0) (h : Inv x e (n + 1) S) :
    Inv x e ((i 0).val + 1) (S.later i) := by
  obtain ⟨⟨hm, hv, hb, hq, hi⟩, ⟨hx, hr⟩, hbv, hbi⟩ := h
  have e1 : (i 0).val / 4 = n / 4 := by omega
  have e2 : (i 0).val % 4 = n % 4 + 1 := by omega
  refine ⟨⟨hm, hv, hb, hq, hi⟩, ⟨by rw [e1]; exact hx, by rw [e1]; exact hr⟩, ?_, ?_⟩
  all_goals simp only [Scr.later]
  all_goals rw [codes_of_point (e := e) hb, norms_of_point (e := e) hq]
  all_goals (simp only [jw_eq, e1, e2, hx, hr, hbv, hbi, hi]; rfl)

end Steps

end Cert.KernelIdeal.Hand

end
-- ==== Proof.Run.lean ====
module

public import proofs.«01_k».proof.Proof.Data
public import Idealize.ShloMosaic.Lib.Pipeline.ValueKit

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The input array, and the codes, at launch. -/
abbrev xArr (c : Dev nD) : Vec F S8192x256 .f32 := m ((c : Thread nD τ).loc main_arg0)
abbrev eArr (c : Dev nD) : Vec F S8192x256 .f32 := m ((c : Thread nD τ).loc main_arg1)

/-- The scratch buffers of core `c`, at `S`. -/
abbrev scratchAt (c : Dev nD) (S : Scr F) : sProp 𝕄 := held c (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) S

/-- The output buffer after point `t`, having held `Y` before it: a point that ends a block of rows stores the block's indices. -/
def outAfter (x e : Vec F S8192x256 .f32) (t : ℕ) (Y : Vec F S8192x1 .i32) : Vec F S8192x1 .i32 :=
  if t % 4 = 3 then VecWindow.put Y ![t / 4 * 1024, 0] S1024x1.size (best x e (t / 4) 3).2 else Y

/-- The proof data of the launch: the inputs stay as found, the output follows `outAfter`, the scratch keeps `Inv`. -/
def rdat (c : Dev nD) : Pipeline.RDat τ (Elt F) Unit ℕ (UR sig nD τ) ℕ cfg0 c where
  A w := V m c (Pipeline.arrRef spec0 w)
  after := fun
    | 0 => fun _ Y X => X = Y
    | 1 => fun _ Y X => X = Y
    | 2 => fun t Y X => X = outAfter (xArr m c) (eArr m c) t.val Y
    | ⟨_ + 3, h⟩ => absurd h (Nat.not_lt.2 (Nat.le_add_left _ _))
  Φ t := iprop((∃ S, ⌜Inv (xArr m c) (eArr m c) t.val S⌝ ∗ scratchAt c S) ∗ ∃ r, prngReg c r)
  q _ := fullShare
  owed _ := 0

theorem index0 (t : Fin grid0.N) (a : Fin 2) : win0_0.index t a = 0 := by fin_cases a <;> rfl
theorem index1 (t : Fin grid0.N) (a : Fin 2) : win0_1.index t a = 0 := by fin_cases a <;> rfl

/-- The block of an input window is its whole array, at every point. -/
theorem iblk0_eq (c : Dev nD) (t : Fin cfg0.N) : iblk m c 0 t = xArr m c := by blk_ext! [iblk, V, xArr, index0 t]
theorem iblk1_eq (c : Dev nD) (t : Fin cfg0.N) : iblk m c 1 t = eArr m c := by blk_ext! [iblk, V, eArr, index1 t]

/-- The body is handed the whole input, and the whole of the codes, at every point. -/
theorem finds0 (c : Dev nD) (t : Fin cfg0.N) (Y) (h : (rdat m c).Finds 0 t Y) : Y = xArr m c := by
  obtain ⟨d, hd⟩ := (rdat m c).finds_in_eq_fetched 0 rfl (fun _ _ _ => rfl) (fun _ _ _ h => h) t Y h
  exact hd.trans (iblk0_eq m c t)
theorem finds1 (c : Dev nD) (t : Fin cfg0.N) (Y) (h : (rdat m c).Finds 1 t Y) : Y = eArr m c := by
  obtain ⟨d, hd⟩ := (rdat m c).finds_in_eq_fetched 1 rfl (fun _ _ _ => rfl) (fun _ _ _ h => h) t Y h
  exact hd.trans (iblk1_eq m c t)

/-- The launch's scoped buffers outside the pipeline are the scratch, at some contents. -/
theorem scratch_intro (c : Dev nD) : (Pipeline.ΦA spec0 c : sProp 𝕄) ⊢ iprop((∃ S : Scr F, scratchAt c S) ∗ ∃ r, prngReg c r) := by
  unfold Pipeline.ΦA scratchAt held; rw [scopedRest0_eq]; simp only [owns_whole]
  iintro ⟨⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩⟩, HR⟩
  isplitr [HR]
  · iexists (⟨f0, f1, f2, f3, f4, f5, f6, f7, f8⟩ : Scr F)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · iexact HR

theorem scratch_elim (c : Dev nD) : iprop((∃ S : Scr F, scratchAt c S) ∗ ∃ r, prngReg c r) ⊢ (Pipeline.ΦA spec0 c : sProp 𝕄) := by
  unfold Pipeline.ΦA scratchAt held; rw [scopedRest0_eq]; simp only [owns_whole]
  iintro ⟨⟨%S, H0, H1, H2, H3, H4, H5, H6, H7, H8⟩, HR⟩
  isplitr [HR]
  · isplitl [H0]; · iexists S.mean; iexact H0
    isplitl [H1]; · iexists S.var; iexact H1
    isplitl [H2]; · iexists S.xnb; iexact H2
    isplitl [H3]; · iexists S.rn; iexact H3
    isplitl [H4]; · iexists S.bv; iexact H4
    isplitl [H5]; · iexists S.bi; iexact H5
    isplitl [H6]; · iexists S.ebf; iexact H6
    isplitl [H7]; · iexists S.esq; iexact H7
    iexists S.ids; iexact H8
  · iexact HR

/-- The invariant of the proof data, spelt out. -/
theorem phi_eq (c : Dev nD) (t : Fin (cfg0.N + 1)) :
    (rdat m c).Φ t = iprop((∃ S, ⌜Inv (xArr m c) (eArr m c) t.val S⌝ ∗ scratchAt c S) ∗ ∃ r, prngReg c r) := rfl

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- One point of the body: from the invariant and the buffers found, to the next point's invariant and the buffers left. -/
theorem body_point (c : Dev nD) (t : Fin cfg0.N) (o : Vec F S8192x1 .i32) (S : Scr F) (hS : Inv (xArr m c) (eArr m c) t.val S) (K : PUnit → sProp 𝕄) :
    iprop(owns (c : Thread nD τ) (st0_0 t) fullShare (xArr m c) ∗ owns (c : Thread nD τ) (st0_1 t) fullShare (eArr m c)
        ∗ owns (c : Thread nD τ) (st0_2 t) fullShare o ∗ scratchAt c S
        ∗ (iprop(owns (c : Thread nD τ) (st0_0 t) fullShare (xArr m c) ∗ owns (c : Thread nD τ) (st0_1 t) fullShare (eArr m c)
          ∗ owns (c : Thread nD τ) (st0_2 t) fullShare (outAfter (xArr m c) (eArr m c) t.val o)
          ∗ ∃ S' : Scr F, ⌜Inv (xArr m c) (eArr m c) (t.val + 1) S'⌝ ∗ scratchAt c S') -∗ K ⟨⟩))
      ⊢ wp frame (wpE (defs₀ (F := F)) Variants.none c none) Set.univ (bodyAt0 t) K := by
  have hv : ((grid0.coords t) 0).val = t.val := coords_val t
  have c1 := isFirst_iff (grid0.coords t)
  have c2 := cond2_iff (grid0.coords t)
  have c3 := isInit_iff (grid0.coords t)
  have c4 := isLater_iff (grid0.coords t)
  have c5 := cond5_iff (grid0.coords t)
  rw [hv] at c1 c2 c3 c4 c5
  by_cases hj : t.val % 4 = 0
  · have ho : outAfter (xArr m c) (eArr m c) t.val o = o := if_neg (by omega)
    rw [ho]
    by_cases h0 : t.val = 0
    · refine .trans ?_ (runA c (grid0.coords t) _ _ _ _ _ _ _ _ _ _ _ _ _ _ _ _ _ _ _ _ _ _ _ _ (c1.2 h0) (c2.2 hj) (c3.2 hj) (by rw [c4]; omega) (by rw [c5]; omega)
        (xArr m c) (eArr m c) o S K)
      iintro ⟨H1, H2, H3, HS, HK⟩
      isplitl [H1]; · iexact H1
      isplitl [H2]; · iexact H2
      isplitl [H3]; · iexact H3
      isplitl [HS]; · iexact HS
      iintro ⟨H1, H2, H3, HS⟩
      iapply HK
      isplitl [H1]; · iexact H1
      isplitl [H2]; · iexact H2
      isplitl [H3]; · iexact H3
      iexists _; isplitr; swap; · iexact HS
      ipureintro
      have := inv_first (x := xArr m c) (e := eArr m c) (i := grid0.coords t) (S := S) (hv.trans h0) (c2.2 hj)
      rwa [hv] at this
    · refine .trans ?_ (runB c (grid0.coords t) _ _ _ _ _ _ _ _ _ _ _ _ _ _ _ _ _ _ _ _ _ _ _ _ (by rw [c1]; exact h0) (c2.2 hj) (c3.2 hj) (by rw [c4]; omega) (by rw [c5]; omega)
        (xArr m c) (eArr m c) o S K)
      iintro ⟨H1, H2, H3, HS, HK⟩
      isplitl [H1]; · iexact H1
      isplitl [H2]; · iexact H2
      isplitl [H3]; · iexact H3
      isplitl [HS]; · iexact HS
      iintro ⟨H1, H2, H3, HS⟩
      iapply HK
      isplitl [H1]; · iexact H1
      isplitl [H2]; · iexact H2
      isplitl [H3]; · iexact H3
      iexists _; isplitr; swap; · iexact HS
      ipureintro
      obtain ⟨n, hn⟩ := Nat.exists_eq_succ_of_ne_zero h0
      rw [hn] at hS
      have := inv_init (i := grid0.coords t) (hv.trans hn) (by rw [hv]; exact hj) (c2.2 hj) hS
      rwa [hv] at this
  · have h0 : t.val ≠ 0 := fun h => hj (by rw [h])
    obtain ⟨n, hn⟩ := Nat.exists_eq_succ_of_ne_zero h0
    rw [hn] at hS
    have hI := inv_later (i := grid0.coords t) (hv.trans hn) (by rw [hv]; exact hj) hS
    rw [hv] at hI
    by_cases h3 : t.val % 4 = 3
    · refine .trans ?_ (runD c (grid0.coords t) _ _ _ _ _ _ _ _ _ _ _ _ _ _ _ _ _ _ _ _ _ _ _ _ (by rw [c1]; exact h0) (by rw [c2]; exact hj) (by rw [c3]; exact hj) (c4.2 hj) (c5.2 h3)
        (xArr m c) (eArr m c) o S K)
      have ho : outAfter (xArr m c) (eArr m c) t.val o
          = VecWindow.put o (k0_off4 (grid0.coords t)) S1024x1.size (S.later (grid0.coords t)).bi := by
        rw [off4_eq, hv, hI.2.2.2, h3]; exact if_pos h3
      rw [ho]
      iintro ⟨H1, H2, H3, HS, HK⟩
      isplitl [H1]; · iexact H1
      isplitl [H2]; · iexact H2
      isplitl [H3]; · iexact H3
      isplitl [HS]; · iexact HS
      iintro ⟨H1, H2, H3, HS⟩
      iapply HK
      isplitl [H1]; · iexact H1
      isplitl [H2]; · iexact H2
      isplitl [H3]; · iexact H3
      iexists _; isplitr; swap; · iexact HS
      ipureintro; exact hI
    · have ho : outAfter (xArr m c) (eArr m c) t.val o = o := if_neg h3
      rw [ho]
      refine .trans ?_ (runC c (grid0.coords t) _ _ _ _ _ _ _ _ _ _ _ _ _ _ _ _ _ _ _ _ _ _ _ _ (by rw [c1]; exact h0) (by rw [c2]; exact hj) (by rw [c3]; exact hj) (c4.2 hj) (by rw [c5]; exact h3)
        (xArr m c) (eArr m c) o S K)
      iintro ⟨H1, H2, H3, HS, HK⟩
      isplitl [H1]; · iexact H1
      isplitl [H2]; · iexact H2
      isplitl [H3]; · iexact H3
      isplitl [HS]; · iexact HS
      iintro ⟨H1, H2, H3, HS⟩
      iapply HK
      isplitl [H1]; · iexact H1
      isplitl [H2]; · iexact H2
      isplitl [H3]; · iexact H3
      iexists _; isplitr; swap; · iexact HS
      ipureintro; exact hI

/-- The body obligation of the launch. -/
theorem body_obligation (c : Dev nD) : (rdat (F := F) m c).BodyObligation defs₀ Variants.none () Set.univ := by
  intro t Y hY
  rw [bigSep_W0, bigSep_W0, defs₀_row]
  have h0 := finds0 m c t (Y 0) (hY 0)
  have h1 := finds1 m c t (Y 1) (hY 1)
  unfold Pipeline.RDat.owesAt Pipeline.owesWithin
  rw [phi_eq, phi_eq]
  iintro ⟨⟨⟨%S, %hS, HS⟩, HR⟩, HO, H0, H1, H2⟩
  rw [h0, h1]
  iapply (body_point m c t (Y 2) S hS _)
  isplitl [H0]; · iexact H0
  isplitl [H1]; · iexact H1
  isplitl [H2]; · iexact H2
  isplitl [HS]; · iexact HS
  iintro ⟨H0, H1, H2, HS⟩
  isplitl [HS HR]
  · isplitl [HS]; · iexact HS
    iexact HR
  isplitl [HO]; · iexact HO
  isplitl [H0]
  · iexists _; isplitr; swap; · iexact H0
    ipureintro; rfl
  isplitl [H1]
  · iexists _; isplitr; swap; · iexact H1
    ipureintro; rfl
  iexists _; isplitr; swap; · iexact H2
  ipureintro; rfl

set_option backward.isDefEq.respectTransparency.types false in
/-- From any memory with zero counters every execution of the program ends, in a state where the windowed arrays hold what
    the proof data allow, the other buffers what they held, and every counter is zero. -/
theorem run_main :
    θ_run defs (onTc (τ := τ) (main (F := F))) (s₀ m ρ)
      (fun r => Pipeline.RDat.FramePost (cfgs 0) (rdat m) (V m) r ∧ r.2.sem = fun _ => 0) :=
  Pipeline.RDat.θ_run_frame_track (Q' := _) cfgs (0 : Fin 1) launch0 defs₀ Variants.none (rdat m) m ρ main
    (hbody := body_obligation m) (hshare := fun c w => by unfold Pipeline.RDat.share; split <;> rfl)
    (howed := fun _ _ => rfl) (V := V m) (hmain := hmain m Variants.none) (hA := fun _ _ => rfl)
    (hin := fun c => (scratch_intro c).trans (by
      rw [phi_eq]
      iintro ⟨⟨%S, HS⟩, HR⟩
      isplitl [HS]
      · iexists S; isplitr; · ipureintro; exact trivial
        iexact HS
      · iexact HR))
    (hout := fun c => .trans (by
      rw [phi_eq]
      iintro ⟨⟨%S, %hS, HS⟩, HR⟩
      isplitl [HS]
      · iexists S; iexact HS
      · iexact HR) (scratch_elim c))

end Cert.KernelIdeal.Hand

end
-- ==== Proof.Final.lean ====
module

public import proofs.«01_k».proof.Proof.Run
public import Idealize.ShloMosaic.Lib.Pipeline.ArrRel

@[expose] public section

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

/-- Row `r` of the array of results: the index the search over the four blocks of codes leaves for it. -/
def result (x e : Vec F S8192x256 .f32) (r : Fin 8192) : BitVec 32 :=
  (best x e (r.val / 1024) 3).2 (ix2 (⟨r.val % 1024, Nat.mod_lt _ (by decide)⟩ : Fin 1024) (0 : Fin 1))

/-- The rows of block `k` put into an array of one column: the payload in the block's rows, the array elsewhere. -/
theorem put_row {α : Type} (Y : S8192x1.Idx → α) (k : ℕ) (w : S1024x1.Idx → α) (r : Fin 8192) :
    VecWindow.put Y ![k * 1024, 0] S1024x1.size w (ix2 r (0 : Fin 1))
      = if r.val / 1024 = k then w (ix2 (⟨r.val % 1024, Nat.mod_lt _ (by decide)⟩ : Fin 1024) (0 : Fin 1)) else Y (ix2 r (0 : Fin 1)) := by
  unfold VecWindow.put
  by_cases hk : r.val / 1024 = k
  · have hin : ∀ a, (![k * 1024, 0] : Fin 2 → ℕ) a ≤ ((ix2 r (0 : Fin 1) : S8192x1.Idx) a).val
        ∧ ((ix2 r (0 : Fin 1) : S8192x1.Idx) a).val < (![k * 1024, 0] : Fin 2 → ℕ) a + S1024x1.size a := by
      intro a
      match a with
      | 0 => exact (show k * 1024 ≤ r.val ∧ r.val < k * 1024 + 1024 by omega)
      | 1 => exact ⟨Nat.le_refl _, Nat.one_pos⟩
    rw [if_pos hk, dif_pos hin]
    apply congrArg w
    funext a
    apply Fin.ext
    match a with
    | 0 => exact (show r.val - k * 1024 = r.val % 1024 by omega)
    | 1 => rfl
  · rw [if_neg hk, dif_neg]
    intro hin
    have h0 : k * 1024 ≤ r.val ∧ r.val < k * 1024 + 1024 := hin 0
    omega

/-- After point `t` the output buffer holds the results of every block of rows ended by then. -/
theorem leaves_out (c : Dev nD) : ∀ (n : ℕ) (t : Fin cfg0.N) (ht : t.val = n) (X : Vec F S8192x1 .i32), (rdat m c).Leaves 2 t X →
    ∀ r : Fin 8192, r.val < (n + 1) / 4 * 1024 → X (ix2 r (0 : Fin 1)) = result (xArr m c) (eArr m c) r := by
  intro n
  induction n with
  | zero => intro t ht X _ r hr; omega
  | succ n ih =>
    intro t ht X ⟨Y, hY, hX⟩ r hr
    have hX' : X = outAfter (xArr m c) (eArr m c) t.val Y := hX
    rw [ht] at hX'
    subst hX'
    have hN : n + 1 < 32 := ht ▸ (lt_of_lt_of_eq t.isLt N_0)
    have ht0 : t.val ≠ 0 := by rw [ht]; exact Nat.succ_ne_zero n
    have hold := fun u (hu : u.val = n) (h : (rdat m c).Leaves 2 u Y) => ih u hu Y h r
    have hY' : ∀ r : Fin 8192, r.val < (n + 1) / 4 * 1024 → Y (ix2 r (0 : Fin 1)) = result (xArr m c) (eArr m c) r := by
      have hp : t.val - 1 = n := by rw [ht]; rfl
      rcases ((rdat m c).finds_of_pos ((cfg0.win 2).fetch_out rfl _) ht0 Y).1 hY with hf | h
      · have h31 := (flush0_2 _).1 hf
        have h31' : (t.val - 1) % 32 = 31 := h31
        rw [hp] at h31'
        clear hX hY hf h31 ih hold
        omega
      · exact ih _ hp Y h
    clear hX hY hold ih ht0
    clear ht
    have hold := hY' r
    unfold outAfter result
    by_cases h3 : (n + 1) % 4 = 3
    · rw [if_pos h3, put_row]
      by_cases hr' : r.val / 1024 = (n + 1) / 4
      · rw [if_pos hr', hr']
      · rw [if_neg hr']
        exact hold (by omega)
    · rw [if_neg h3]
      exact hold (by omega)

/-- From any memory with zero counters every execution ends with the arguments unchanged, the results those `result` names, and
    every counter zero. -/
theorem run_result :
    θ_run defs (onTc (τ := τ) (main (F := F))) ⟨m, fun _ => 0, ρ⟩
      (fun r => (∀ c : Dev nD,
        (∀ i : Fin 8192, (r.2.mem ((c : Thread nD τ).loc main_v0) : Vec F S8192x1 .i32) (ix2 i (0 : Fin 1)) = result (xArr m c) (eArr m c) i)
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_arg5) = m ((c : Thread nD τ).loc main_arg5))
        ∧ r.2.sem = fun _ => 0) := by
  refine (θ_run defs _ _).mono (fun r h => ⟨fun c => ⟨fun i => ?_, h.1.arr_in c 0 rfl, h.1.arr_in c 1 rfl, ?_, ?_, ?_, ?_⟩, h.2⟩) (run_main m ρ)
  · obtain ⟨X, hX, hG⟩ := Pipeline.RDat.ArrAt.emb_eq_of_wholeAt ((h.1 c).1 2) (t₀ := ⟨31, by decide⟩) (by decide +kernel)
    have := hG (ix2 i (0 : Fin 1))
    exact this.trans (leaves_out m c 31 _ rfl X hX i (by omega))
  · exact (h.1 c).2 main_arg2 (Pipeline.mem_restRefs_of main_arg2 (by decide) (by decide))
  · exact (h.1 c).2 main_arg3 (Pipeline.mem_restRefs_of main_arg3 (by decide) (by decide))
  · exact (h.1 c).2 main_arg4 (Pipeline.mem_restRefs_of main_arg4 (by decide) (by decide))
  · exact (h.1 c).2 main_arg5 (Pipeline.mem_restRefs_of main_arg5 (by decide) (by decide))

end Cert.KernelIdeal.Hand

end
-- ==== Proof.Frames.lean ====
module

public import proofs.«01_k».proof.Defs
public import proofs.«01_k».proof.Proof.Gen.Kernel
public import proofs.«01_k».proof.Proof.Final

@[expose] public section

noncomputable section

namespace Cert.Proof

open Idealize.ShloMosaic Idealize.ShloMosaic.TcCoe Idealize.SL.Sem

/-- The two programs have the same body table: they are one text, printed under two names. -/
theorem defs₀_eq : Cert.Kernel.defs₀ (F := Bits) = Cert.KernelIdeal.defs₀ (F := Bits) := by
  unfold Cert.Kernel.defs₀ Cert.KernelIdeal.defs₀
  refine congrArg Defs.onTc ?_
  funext ℓ
  match ℓ with
  | 0 => rfl

theorem defs_eq : Cert.Kernel.defs (F := Bits) = Cert.KernelIdeal.defs (F := Bits) :=
  congrArg (Pipeline.defs Cert.KernelIdeal.pcfgs) defs₀_eq

/-- The kernel on machine numbers runs, leaves its arguments as they were and every counter at zero. -/
theorem frame_kernel : Cert.quiescent_Kernel (hKernel := Cert.Kernel.Gen.facts) := fun m g _ => by
  have h := Cert.KernelIdeal.Hand.run_result (F := Bits) m g
  rw [← defs_eq] at h
  exact (θ_run _ _ _).mono (fun r h => ⟨fun c => (h.1 c).2, h.2⟩) h

/-- The kernel on extended reals runs, leaves its arguments as they were and every counter at zero. -/
theorem frame_kernelIdeal : Cert.quiescent_KernelIdeal (hKernelIdeal := Cert.KernelIdeal.Gen.facts) := fun m g _ =>
  (θ_run _ _ _).mono (fun r h => ⟨fun c => (h.1 c).2, h.2⟩) (Cert.KernelIdeal.Hand.run_result (F := Ideal) m g)

end Cert.Proof

end
-- ==== Proof.Ref.lean ====
module

public import proofs.«01_k».proof.Defs
public import proofs.«01_k».proof.Proof.Gen.ReferenceIdeal
public import Idealize.ShloMosaic.Lib.Claim
public import Idealize.ShloMosaic.Lib.StableHlo.RunHlo

@[expose] public section

noncomputable section

namespace Cert.ReferenceIdeal.Hand

open Idealize.ShloMosaic Idealize.ShloMosaic.TcCoe Idealize.SL.Sem Cert.ReferenceIdeal
open Facts₀ Facts

/-- The reference runs from every memory, leaves its arguments as they were, and has no counter to leave nonzero. -/
theorem frame : Cert.quiescent_ReferenceIdeal (hReferenceIdeal := Cert.ReferenceIdeal.Gen.facts) := by
  intro m g _
  hlo_run
  · exact fun _ => ⟨trivial, trivial, trivial, trivial, trivial, trivial⟩
  · exact sem_eq_zero_of_no_sems (sig := sig) (by decide) _

/-- The mean of each column of the input. -/
def mean (x : FVec Ideal S8192x256 .f32) : FVec Ideal S256 .f32 :=
  Host.divf (Host.reduceAdd x (constant S_ .f32 0x00000000#32) reducesTo_S8192x256_S256_d0 h_S_)
    (broadcastInDim S256 ![] bcast_S_S256 (constant S_ .f32 0x46000000#32))

/-- The number of rows the variance divides by: all of them, less nothing. -/
def count : FVec Ideal S_ .f32 := subf (constant S_ .f32 0x46000000#32) (sitofp .f32 (constantI S_ 32 0#32))

/-- The input less the mean of its column, as the variance takes it. -/
def centred (x : FVec Ideal S8192x256 .f32) : FVec Ideal S8192x256 .f32 :=
  subf x (broadcastInDim S8192x256 ![0, 1] bcast_S1x256_S8192x256_0_1
    (Host.divf (broadcastInDim S1x256 ![1] bcast_S256_S1x256_1 (Host.reduceAdd x (constant S_ .f32 0x00000000#32) reducesTo_S8192x256_S256_d0 h_S_))
      (broadcastInDim S1x256 ![] bcast_S_S1x256 (constant S_ .f32 0x46000000#32))))

/-- The variance of each column of the input. -/
def var (x : FVec Ideal S8192x256 .f32) : FVec Ideal S256 .f32 :=
  select (broadcastInDim S256 ![] bcast_S_S256 (cmpf .ogt count (constant S_ .f32 0x00000000#32)))
    (Host.divf (Host.reduceAdd (mulf (centred x) (centred x)) (constant S_ .f32 0x00000000#32) reducesTo_S8192x256_S256_d0 h_S_)
      (broadcastInDim S256 ![] bcast_S_S256 count))
    (broadcastInDim S256 ![] bcast_S_S256 (constant S_ .f32 0x7FC00000#32))

/-- The normalised input. -/
def xn (x : FVec Ideal S8192x256 .f32) : FVec Ideal S8192x256 .f32 :=
  Host.divf (subf x (broadcastInDim S8192x256 ![0, 1] bcast_S1x256_S8192x256_0_1 (broadcastInDim S1x256 ![1] bcast_S256_S1x256_1 (mean x))))
    (broadcastInDim S8192x256 ![0, 1] bcast_S1x256_S8192x256_0_1 (broadcastInDim S1x256 ![1] bcast_S256_S1x256_1
      (Host.sqrt (addf (var x) (broadcastInDim S256 ![] bcast_S_S256 (constant S_ .f32 0x3727C5AC#32))))))

/-- The squared norm of each row. -/
def norms (y : FVec Ideal S8192x256 .f32) : FVec Ideal S8192 .f32 :=
  Host.reduceAdd (mulf y y) (constant S_ .f32 0x00000000#32) reducesTo_S8192x256_S8192_d1 h_S_

/-- The squared distance of each row of `y` to each row of `e`. -/
def dist (y e : FVec Ideal S8192x256 .f32) : FVec Ideal S8192x8192 .f32 :=
  subf
    (addf (broadcastInDim S8192x8192 ![0, 1] bcast_S8192x1_S8192x8192_0_1 (broadcastInDim S8192x1 ![0] bcast_S8192_S8192x1_0 (norms y)))
      (broadcastInDim S8192x8192 ![0, 1] bcast_S1x8192_S8192x8192_0_1 (broadcastInDim S1x8192 ![1] bcast_S8192_S1x8192_1 (norms e))))
    (mulf (broadcastInDim S8192x8192 ![] bcast_S_S8192x8192 (constant S_ .f32 0x40000000#32))
      (Host.dotGeneral dot_S8192x256_S256x8192_S8192x8192_1_0_0_1_n_n none y (transpose S256x8192 [1, 0] e transposes_S8192x256_S256x8192_1_0)))

/-- The position of the least entry of each row. -/
def argmin (d : FVec Ideal S8192x8192 .f32) : IVec S8192 32 :=
  fun j => (Host.argReduce reducer_argmin_f32_i32 d (iotaInDim S8192x8192 32 1) (constant S_ .f32 0x7F800000#32) (constantI S_ 32 0#32)
    reducesTo_S8192x8192_S8192_d1 h_S_ j).2

/-- The reference's result: the index of the nearest row of `e`, for each normalised row of `x`. -/
def out (x e : FVec Ideal S8192x256 .f32) : IVec S8192x1 32 :=
  broadcastInDim S8192x1 ![0] bcast_S8192_S8192x1_0 (argmin (dist (xn x) e))

/-- The reference's run: its result is `out` of its first two arguments, and the arguments are as they were. -/
theorem run (m : (ℓ : Loc nD τ sig) → Buf (Elt Ideal) ℓ) (g : Dev nD → PrngReg) :
    θ_run (Cert.ReferenceIdeal.defs (F := Ideal)) (onTc (τ := τ) (Cert.ReferenceIdeal.main (F := Ideal))) ⟨m, fun _ => 0, g⟩ (fun r => ∀ c : Dev nD,
      r.2.mem ((c.tc : Thread nD τ).loc main_v28)
        = (out (m ((c.tc : Thread nD τ).loc main_arg0)) (m ((c.tc : Thread nD τ).loc main_arg1)) : IVec S8192x1 32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  hlo_run
  rfl

end Cert.ReferenceIdeal.Hand

end
-- ==== Proof.Math.lean ====
module

public import Idealize.ShloMosaic.PureOps.Ideal.Laws
public import Idealize.ShloMosaic.Lib.IdealHost

@[expose] public section

noncomputable section

namespace Cert.Nearest

open Idealize.ShloMosaic

/-! ## The constants of the two programs -/

theorem top_eq : Ideal.ofBits .f32 0x7F800000#32 = ⊤ := by
  simp [Ideal.ofBits, Ideal.ieee]

theorem rows_eq : Ideal.ofBits .f32 0x46000000#32 = ((8192 : ℝ) : EReal) := by
  simp [Ideal.ofBits, Ideal.ieee, -EReal.coe_mul]; norm_num

theorem inv_rows_eq : Ideal.ofBits .f32 0x39000000#32 = (((8192 : ℝ)⁻¹ : ℝ) : EReal) := by
  simp [Ideal.ofBits, Ideal.ieee, -EReal.coe_mul]; norm_num

theorem two_eq : Ideal.ofBits .f32 0x40000000#32 = ((2 : ℝ) : EReal) := by
  simp [Ideal.ofBits, Ideal.ieee, -EReal.coe_mul]; norm_num

theorem neg_two_eq : Ideal.ofBits .f32 0xC0000000#32 = ((-2 : ℝ) : EReal) := by
  simp [Ideal.ofBits, Ideal.ieee, -EReal.coe_mul, -EReal.coe_neg]; norm_num

theorem width_eq : Ideal.ofBits .f32 0x45000000#32 = ((2048 : ℝ) : EReal) := by
  simp [Ideal.ofBits, Ideal.ieee, -EReal.coe_mul]; norm_num

/-- The term added to the variance is a positive real. -/
theorem eps_pos : ∃ ε : ℝ, 0 < ε ∧ Ideal.ofBits .f32 0x3727C5AC#32 = (ε : EReal) := by
  refine ⟨_, ?_, by simp [Ideal.ofBits, Ideal.ieee, -EReal.coe_mul]; rfl⟩
  positivity

/-! ## Sums of reals among extended reals -/

/-- A finite sum that is a real has real terms only. -/
theorem real_of_sum {ι : Type} [DecidableEq ι] (s : Finset ι) (f : ι → EReal) {r : ℝ} (h : ∑ i ∈ s, f i = (r : EReal)) {i : ι} (hi : i ∈ s) :
    ∃ a : ℝ, f i = (a : EReal) := by
  rw [← Finset.add_sum_erase s f hi] at h
  generalize f i = y at h ⊢
  induction y using EReal.rec with
  | bot => rw [EReal.bot_add] at h; exact absurd h.symm (EReal.coe_ne_bot r)
  | coe a => exact ⟨a, rfl⟩
  | top =>
    by_cases hb : ∑ k ∈ s.erase i, f k = ⊥
    · rw [hb, EReal.add_bot] at h; exact absurd h.symm (EReal.coe_ne_bot r)
    · rw [EReal.top_add_of_ne_bot hb] at h; exact absurd h.symm (EReal.coe_ne_top r)

/-- A finite sum of reals is the real sum. -/
theorem sum_coe {ι : Type} (s : Finset ι) (f : ι → ℝ) : ∑ i ∈ s, ((f i : ℝ) : EReal) = ((∑ i ∈ s, f i : ℝ) : EReal) := by
  classical
  induction s using Finset.induction with
  | empty => simp
  | insert a s ha ih => rw [Finset.sum_insert ha, Finset.sum_insert ha, ih, EReal.coe_add]

/-- A sum over a nonempty set of terms all `⊤` is `⊤`. -/
theorem sum_top {ι : Type} (s : Finset ι) (hs : s.Nonempty) (f : ι → EReal) (h : ∀ i, f i = ⊤) : ∑ i ∈ s, f i = ⊤ := by
  classical
  obtain ⟨i, hi⟩ := hs
  rw [← Finset.add_sum_erase s f hi, h i]
  apply EReal.top_add_of_ne_bot
  have : (0 : EReal) ≤ ∑ k ∈ s.erase i, f k := Finset.sum_nonneg fun k _ => by rw [h k]; exact le_top
  intro hb
  rw [hb] at this
  exact absurd this (by simp)

/-! ## Normalisation -/

/-- A column less its mean, over the root of its variance and a positive constant, is real whatever the column holds: where an
    entry is infinite the mean is, so the variance is `⊤` and the quotient zero. -/
theorem normalised_real {n : ℕ} (hn : 0 < n) (x : Fin n → EReal) {c ε : ℝ} (hc : 0 < c) (hε : 0 < ε) {μ v : EReal}
    (hμ : μ = (∑ i, x i) * (c : EReal)) (hv : v = (∑ i, (x i - μ) * (x i - μ)) * (c : EReal)) (i : Fin n) :
    ∃ r : ℝ, Ideal.div (x i - μ) (Ideal.sqrt (v + (ε : EReal))) = (r : EReal) := by
  have hne : (Finset.univ : Finset (Fin n)).Nonempty := ⟨⟨0, hn⟩, Finset.mem_univ _⟩
  -- an infinite mean makes every quotient zero
  have key : (∀ k, (x k - μ) * (x k - μ) = ⊤) → ∃ r : ℝ, Ideal.div (x i - μ) (Ideal.sqrt (v + (ε : EReal))) = (r : EReal) := by
    intro hk
    rw [sum_top _ hne _ hk, EReal.top_mul_coe_of_pos hc] at hv
    rw [hv, EReal.top_add_coe, Ideal.sqrt_top]
    refine ⟨0, ?_⟩
    unfold Ideal.div
    rw [if_neg (by simp), EReal.inv_top, mul_zero, EReal.coe_zero]
  generalize hs : ∑ i, x i = s at hμ
  induction s using EReal.rec with
  | bot =>
    rw [EReal.bot_mul_coe_of_pos hc] at hμ
    apply key
    intro k
    rw [hμ, sub_eq_add_neg, EReal.neg_bot]
    generalize x k = y
    induction y using EReal.rec with
    | bot => simp
    | coe a => simp
    | top => simp
  | top =>
    rw [EReal.top_mul_coe_of_pos hc] at hμ
    apply key
    intro k
    rw [hμ, sub_eq_add_neg, EReal.neg_top, EReal.add_bot]
    simp
  | coe s =>
    choose a ha using fun k => real_of_sum Finset.univ x hs (Finset.mem_univ k)
    rw [← EReal.coe_mul] at hμ
    have hsq : ∀ k, (x k - μ) * (x k - μ) = (((a k - s * c) * (a k - s * c) : ℝ) : EReal) := fun k => by
      rw [ha k, hμ, ← EReal.coe_sub, ← EReal.coe_mul]
    rw [Finset.sum_congr rfl fun k _ => hsq k, sum_coe, ← EReal.coe_mul] at hv
    have hv0 : 0 ≤ (∑ k, (a k - s * c) * (a k - s * c)) * c :=
      mul_nonneg (Finset.sum_nonneg fun k _ => mul_self_nonneg _) hc.le
    rw [hv, ← EReal.coe_add, Ideal.sqrt_coe, if_neg (by linarith), ha i, hμ, ← EReal.coe_sub]
    have hpos : 0 < Real.sqrt ((∑ k, (a k - s * c) * (a k - s * c)) * c + ε) := Real.sqrt_pos.2 (by linarith)
    refine ⟨(a i - s * c) * (Real.sqrt ((∑ k, (a k - s * c) * (a k - s * c)) * c + ε))⁻¹, ?_⟩
    unfold Ideal.div
    rw [if_neg (by exact_mod_cast hpos.ne'), ← EReal.coe_inv, ← EReal.coe_mul]

/-- Division by a real that is not zero is the product with its inverse. -/
theorem div_coe (y : EReal) {r : ℝ} (hr : r ≠ 0) : Ideal.div y (r : EReal) = y * ((r⁻¹ : ℝ) : EReal) := by
  unfold Ideal.div
  rw [if_neg (by exact_mod_cast hr), EReal.coe_inv]

/-- The factor −2 may be taken out of a product sum of reals, and the sum so scaled added or its double subtracted. -/
theorem scaled_sum {ι : Type} (s : Finset ι) (a b : ι → EReal) (ha : ∀ k, ∃ r : ℝ, a k = (r : EReal)) (hb : ∀ k, ∃ r : ℝ, b k = (r : EReal)) (p : EReal) :
    p + ∑ k ∈ s, a k * ((-2 : ℝ) : EReal) * b k = p - ((2 : ℝ) : EReal) * ∑ k ∈ s, a k * b k := by
  choose A hA using ha
  choose B hB using hb
  have e1 : ∀ k, a k * ((-2 : ℝ) : EReal) * b k = ((A k * (-2) * B k : ℝ) : EReal) := fun k => by rw [hA, hB, EReal.coe_mul, EReal.coe_mul]
  have e2 : ∀ k, a k * b k = ((A k * B k : ℝ) : EReal) := fun k => by rw [hA, hB, EReal.coe_mul]
  rw [Finset.sum_congr rfl fun k _ => e1 k, Finset.sum_congr rfl fun k _ => e2 k, sum_coe, sum_coe, ← EReal.coe_mul, sub_eq_add_neg, ← EReal.coe_neg]
  congr 2
  rw [← neg_mul, Finset.mul_sum]
  exact Finset.sum_congr rfl fun k _ => by ring

/-! ## The first index attaining a minimum -/

/-- `k` is the first index below `N` at which `D` is least. -/
def FirstMin (D : ℕ → EReal) (N k : ℕ) : Prop := k < N ∧ (∀ l, l < N → D k ≤ D l) ∧ ∀ l, l < k → D k < D l

theorem FirstMin.unique {D : ℕ → EReal} {N k k' : ℕ} (h : FirstMin D N k) (h' : FirstMin D N k') : k = k' := by
  rcases Nat.lt_trichotomy k k' with hlt | he | hgt
  · exact absurd (h'.2.2 k hlt) (not_lt.2 (h.2.1 k' h'.1))
  · exact he
  · exact absurd (h.2.2 k' hgt) (not_lt.2 (h'.2.1 k h.1))

/-- A further block of indices: its first minimum replaces the one before only where it is strictly less. -/
theorem FirstMin.extend {D : ℕ → EReal} {N B k l : ℕ} (h : FirstMin D N k) (h' : FirstMin (fun n => D (N + n)) B l) :
    FirstMin D (N + B) (if D (N + l) < D k then N + l else k) := by
  obtain ⟨hk, hmin, hfirst⟩ := h
  obtain ⟨hl, hmin', hfirst'⟩ := h'
  have hsplit : ∀ q, N ≤ q → q < N + B → D (N + l) ≤ D q := fun q hq hq' => by
    have : D (N + l) ≤ D (N + (q - N)) := hmin' (q - N) (by omega)
    rwa [Nat.add_sub_cancel' hq] at this
  split
  · rename_i hlt
    refine ⟨by omega, fun q hq => ?_, fun q hq => ?_⟩
    · by_cases hqN : q < N
      · exact hlt.le.trans (hmin q hqN)
      · exact hsplit q (not_lt.1 hqN) hq
    · by_cases hqN : q < N
      · exact lt_of_lt_of_le hlt (hmin q hqN)
      · have : D (N + l) < D (N + (q - N)) := hfirst' (q - N) (by omega)
        rwa [Nat.add_sub_cancel' (not_lt.1 hqN)] at this
  · rename_i hle
    refine ⟨by omega, fun q hq => ?_, hfirst⟩
    by_cases hqN : q < N
    · exact hmin q hqN
    · exact (not_lt.1 hle).trans (hsplit q (not_lt.1 hqN) hq)

/-- The minimum of a row, and the minimum of the positions attaining it (a filler no less than the length elsewhere), name the
    first position attaining the minimum. -/
theorem fold_first {n : ℕ} (hn : 0 < n) (f : Fin n → EReal) {w : ℝ} (hw : (n : ℝ) ≤ w) {M : EReal}
    (hM : M = Finset.fold min ⊤ f Finset.univ) :
    ∃ k : Fin n, f k = M ∧ (∀ l, f k ≤ f l) ∧ (∀ l, l < k → f k < f l)
      ∧ Finset.fold min ⊤ (fun l : Fin n => if f l = M then (((l.val : ℕ) : ℝ) : EReal) else ((w : ℝ) : EReal)) Finset.univ = ((k.val : ℝ) : EReal) := by
  have hle : ∀ l, M ≤ f l := fun l => by
    rw [hM]; exact Finset.fold_min_le _ |>.2 (Or.inr ⟨l, Finset.mem_univ _, le_rfl⟩)
  have hex : ∃ k, f k = M := by
    rcases (Finset.fold_min_le (s := Finset.univ) (f := f) (b := ⊤) M).1 hM.ge with ht | ⟨k, -, hk⟩
    · exact ⟨⟨0, hn⟩, le_antisymm (le_top.trans ht) (hle _)⟩
    · exact ⟨k, le_antisymm hk (hle k)⟩
  obtain ⟨k, hk, hkmin⟩ := Finset.exists_min_image (Finset.univ.filter fun k => f k = M) id (by
    obtain ⟨k, hk⟩ := hex
    exact ⟨k, by simp [hk]⟩)
  have hkM : f k = M := (Finset.mem_filter.1 hk).2
  have hfirst : ∀ l, f l = M → k ≤ l := fun l hl => hkmin l (by simp [hl])
  refine ⟨k, hkM, fun l => hkM ▸ hle l, fun l hl => ?_, le_antisymm ?_ ?_⟩
  · rw [hkM]
    exact lt_of_le_of_ne (hle l) fun he => absurd (hfirst l he.symm) (not_le.2 hl)
  · exact Finset.fold_min_le _ |>.2 (Or.inr ⟨k, Finset.mem_univ _, by rw [if_pos hkM]⟩)
  · refine Finset.le_fold_min _ |>.2 ⟨le_top, fun l _ => ?_⟩
    split
    · rename_i hl
      exact_mod_cast hfirst l hl
    · have : (k.val : ℝ) ≤ w := le_trans (by exact_mod_cast k.isLt.le) hw
      exact_mod_cast this

/-- A position below 2³¹, as a real, converts to the integer of that value. -/
theorem fptosi_nat {k : ℕ} (hk : k < 2 ^ 31) : Ideal.fptosi 32 (((k : ℕ) : ℝ) : EReal) = BitVec.ofNat 32 k := by
  have h : Ideal.toIntClamped (-(2 ^ (32 - 1) : ℕ)) ((2 ^ (32 - 1) : ℕ) - 1) (((k : ℕ) : ℝ) : EReal) = (k : ℤ) := by
    show max _ (min _ (if (0 : ℝ) ≤ (k : ℝ) then ⌊(k : ℝ)⌋ else ⌈(k : ℝ)⌉)) = _
    rw [if_pos (by positivity), Int.floor_natCast]
    have h1 : (k : ℤ) < 2 ^ 31 := by exact_mod_cast hk
    norm_num at h1 ⊢
    omega
  unfold Ideal.fptosi
  rw [h]
  exact BitVec.ofInt_natCast 32 k

/-! ## The lexicographic fold -/

/-- A fold that keeps the lesser of two pairs — by value, then by signed index — from `(⊤, 0)` ends in a pair of the list, least
    in it, if some value of the list is below `⊤`. -/
theorem foldl_lex {g : EReal × BitVec 32 → EReal × BitVec 32 → EReal × BitVec 32}
    (hg : ∀ a b, g a b = if a.1 < b.1 ∨ (a.1 = b.1 ∧ a.2.toInt < b.2.toInt) then a else b)
    (l : List (EReal × BitVec 32)) (a : EReal × BitVec 32) :
    (l.foldl g a = a ∨ l.foldl g a ∈ l)
      ∧ ∀ b ∈ a :: l, (l.foldl g a).1 ≤ b.1 ∧ ((l.foldl g a).1 = b.1 → (l.foldl g a).2.toInt ≤ b.2.toInt) := by
  induction l generalizing a with
  | nil =>
    refine ⟨Or.inl rfl, fun b hb => ?_⟩
    rw [List.mem_singleton.1 hb]
    exact ⟨le_rfl, fun _ => le_rfl⟩
  | cons c l ih =>
    obtain ⟨hin, hle⟩ := ih (g a c)
    rw [List.foldl_cons]
    have hgac : g a c = a ∨ g a c = c := by rw [hg]; split <;> simp
    refine ⟨?_, fun b hb => ?_⟩
    · rcases hin with h | h
      · rcases hgac with h' | h'
        · exact Or.inl (h.trans h')
        · exact Or.inr (by rw [h, h']; exact List.mem_cons_self)
      · exact Or.inr (List.mem_cons_of_mem _ h)
    · have hself := hle (g a c) List.mem_cons_self
      rcases List.mem_cons.1 hb with rfl | hb
      · rw [hg b c] at hself ⊢
        split at hself <;> rename_i hc
        · rw [if_pos hc]; exact hself
        · rw [if_neg hc]
          rw [not_or, not_lt] at hc
          refine ⟨hself.1.trans hc.1, fun he => ?_⟩
          have hcb : c.1 = b.1 := le_antisymm hc.1 (he ▸ hself.1)
          have h2 := hself.2 (he.trans hcb.symm)
          have h3 : ¬ b.2.toInt < c.2.toInt := fun h => hc.2 ⟨hcb.symm, h⟩
          omega
      · rcases List.mem_cons.1 hb with rfl | hb
        · rw [hg a b] at hself ⊢
          split at hself <;> rename_i hc
          · rw [if_pos hc]
            rcases hc with hc | ⟨hc, hi⟩
            · exact ⟨hself.1.trans hc.le, fun he => absurd (he ▸ hself.1) (not_le.2 hc)⟩
            · exact ⟨hself.1.trans hc.le, fun he => (hself.2 (he.trans hc.symm)).trans hi.le⟩
          · rw [if_neg hc]; exact hself
        · exact hle b (List.mem_cons_of_mem _ hb)

end Cert.Nearest

end
-- ==== Proof.Values.lean ====
module

public import proofs.«01_k».proof.Proof.Data
public import proofs.«01_k».proof.Proof.Ref
public import proofs.«01_k».proof.Proof.Math
import Idealize.ShloMosaic.Lib.Pipeline.ValueKit

@[expose] public section

noncomputable section

namespace Cert.KernelIdeal.Hand

open Cert.KernelIdeal Cert.KernelIdeal.Gen
open Idealize.ShloMosaic Idealize.ShloMosaic.TcCoe Idealize.ShloMosaic.Tactic

variable (x e : Vec Ideal S8192x256 .f32)

/-! ## The kernel's stored blocks at an index -/

theorem rowsOf_at (i : ℕ) (r : Fin 1024) (d : Fin 256) :
    rowsOf x i (ix2 r d) = x (ix2 (⟨i % 8 * 1024 + r.val, by omega⟩ : Fin 8192) d) := by
  unfold rowsOf View.ld
  congr 1
  funext a
  match a with
  | 0 => ext; simp [Rect.unit]
  | 1 => ext; simp [Rect.unit]

theorem codesOf_at (j : ℕ) (k : Fin 2048) (d : Fin 256) :
    codesOf e j (ix2 k d) = e (ix2 (⟨j % 4 * 2048 + k.val, by omega⟩ : Fin 8192) d) := by
  have hread : ∀ q : Fin 8192, k0_pay12 e (ix2 q d) = e (ix2 q d) := fun q => by pointwise [k0_pay12]
  rw [← hread]
  unfold codesOf View.ld
  congr 1
  funext a
  match a with
  | 0 => ext; simp [Rect.unit]
  | 1 => ext; simp [Rect.unit]

theorem normsOf_at (j : ℕ) (k : Fin 2048) :
    normsOf e j (ix2 (0 : Fin 1) k) = ∑ d : Fin 256, e (ix2 (⟨j % 4 * 2048 + k.val, by omega⟩ : Fin 8192) d)
      * e (ix2 (⟨j % 4 * 2048 + k.val, by omega⟩ : Fin 8192) d) := by
  have hread : ∀ q : Fin 8192, k0_pay13 e (ix2 (0 : Fin 1) q) = ∑ d : Fin 256, e (ix2 q d) * e (ix2 q d) := fun q => by
    pointwise [k0_pay13]
  rw [← hread]
  unfold normsOf View.ld
  congr 1
  funext a
  match a with
  | 0 => ext; simp [Rect.unit]
  | 1 => ext; simp [Rect.unit]

/-! ## The statistics of a column -/

/-- The mean of column `d`. -/
def mu (d : Fin 256) : EReal := (∑ i : Fin 8192, x (ix2 i d)) * (((8192 : ℝ)⁻¹ : ℝ) : EReal)

/-- The variance of column `d`. -/
def sig2 (d : Fin 256) : EReal := (∑ i : Fin 8192, (x (ix2 i d) - mu x d) * (x (ix2 i d) - mu x d)) * (((8192 : ℝ)⁻¹ : ℝ) : EReal)

/-- The normalised input at row `r` and column `d`. -/
def nrm (r : Fin 8192) (d : Fin 256) : EReal :=
  Ideal.div (x (ix2 r d) - mu x d) (Ideal.sqrt (sig2 x d + Ideal.ofBits .f32 0x3727C5AC#32))

theorem pay9_at (d : Fin 256) : k0_pay9 x (ix2 (0 : Fin 1) d) = mu x d := by
  have h : k0_pay9 x (ix2 (0 : Fin 1) d) = (∑ i : Fin 8192, x (ix2 i d)) * Ideal.ofBits .f32 0x39000000#32 := by pointwise [k0_pay9]
  rw [h, Nearest.inv_rows_eq]; rfl

theorem mean_at (d : Fin 256) : k0_pay10 x (ix2 (0 : Fin 1) d) = mu x d := by
  have h : k0_pay10 x (ix2 (0 : Fin 1) d) = k0_pay9 x (ix2 (0 : Fin 1) d) := by pointwise [k0_pay10]
  rw [h, pay9_at]

theorem var_at (d : Fin 256) : k0_pay11 x (ix2 (0 : Fin 1) d) = sig2 x d := by
  have h : k0_pay11 x (ix2 (0 : Fin 1) d)
      = (∑ i : Fin 8192, (x (ix2 i d) - k0_pay9 x (ix2 (0 : Fin 1) d)) * (x (ix2 i d) - k0_pay9 x (ix2 (0 : Fin 1) d))) * Ideal.ofBits .f32 0x39000000#32 := by
    pointwise [k0_pay11]
  rw [h, Nearest.inv_rows_eq, pay9_at]; rfl

/-- The normalised rows, as the kernel computes them: the input's, whatever the block. -/
theorem xnOf_at (i : ℕ) (r : Fin 1024) (d : Fin 256) :
    xnOf x i (ix2 r d) = nrm x (⟨i % 8 * 1024 + r.val, by omega⟩ : Fin 8192) d * ((-2 : ℝ) : EReal) := by
  have h : ∀ (y : Vec Ideal S1024x256 .f32) (u v : Vec Ideal S1x256 .f32), k0_pay16 y u v (ix2 r d)
      = Ideal.div (y (ix2 r d) - u (ix2 (0 : Fin 1) d)) (Ideal.sqrt (v (ix2 (0 : Fin 1) d) + Ideal.ofBits .f32 0x3727C5AC#32)) * Ideal.ofBits .f32 0xC0000000#32 := fun y u v => by
    pointwise [k0_pay16, k0_pay15]
  unfold xnOf
  rw [h, mean_at, var_at, rowsOf_at, Nearest.neg_two_eq]; rfl

theorem rnOf_at (i : ℕ) (r : Fin 1024) :
    rnOf x i (ix2 r (0 : Fin 1)) = ∑ d : Fin 256, nrm x (⟨i % 8 * 1024 + r.val, by omega⟩ : Fin 8192) d * nrm x (⟨i % 8 * 1024 + r.val, by omega⟩ : Fin 8192) d := by
  have h : ∀ (y : Vec Ideal S1024x256 .f32) (u v : Vec Ideal S1x256 .f32), k0_pay17 y u v (ix2 r (0 : Fin 1))
      = ∑ d : Fin 256, Ideal.div (y (ix2 r d) - u (ix2 (0 : Fin 1) d)) (Ideal.sqrt (v (ix2 (0 : Fin 1) d) + Ideal.ofBits .f32 0x3727C5AC#32))
        * Ideal.div (y (ix2 r d) - u (ix2 (0 : Fin 1) d)) (Ideal.sqrt (v (ix2 (0 : Fin 1) d) + Ideal.ofBits .f32 0x3727C5AC#32)) := fun y u v => by
    pointwise [k0_pay17, k0_pay15]
  unfold rnOf
  rw [h]
  refine Finset.sum_congr rfl fun d _ => ?_
  rw [mean_at, var_at, rowsOf_at]; rfl

/-- Every entry of the normalised input is real, whatever the input. -/
theorem nrm_real (r : Fin 8192) (d : Fin 256) : ∃ q : ℝ, nrm x r d = (q : EReal) := by
  obtain ⟨ε, hε, he⟩ := Nearest.eps_pos
  unfold nrm
  rw [he]
  exact Nearest.normalised_real (by decide) (fun i : Fin 8192 => x (ix2 i d)) (by positivity) hε rfl rfl r

/-! ## The distances -/

/-- The squared distance of normalised row `r` to code `k`, as the reference forms it. -/
def sqDist (r k : Fin 8192) : EReal :=
  (∑ d : Fin 256, nrm x r d * nrm x r d) + (∑ d : Fin 256, e (ix2 k d) * e (ix2 k d)) - ((2 : ℝ) : EReal) * ∑ d : Fin 256, nrm x r d * e (ix2 k d)

/-- Where the codes are real so is every distance. -/
theorem sqDist_real (he : ∀ k d, ∃ q : ℝ, e (ix2 k d) = (q : EReal)) (r k : Fin 8192) : ∃ q : ℝ, sqDist x e r k = (q : EReal) := by
  choose A hA using nrm_real x
  choose E hE using he
  unfold sqDist
  simp only [hA, hE, ← EReal.coe_mul, Nearest.sum_coe, ← EReal.coe_add, ← EReal.coe_sub]
  exact ⟨_, rfl⟩

/-- The kernel's distances, for a block of rows and a block of codes, are the reference's where the codes are real. -/
theorem pay1_at (he : ∀ k d, ∃ q : ℝ, e (ix2 k d) = (q : EReal)) (i j : ℕ) (r : Fin 1024) (k : Fin 2048) :
    k0_pay1 (xnOf x i) (codesOf e j) (rnOf x i) (normsOf e j) (ix2 r k)
      = sqDist x e (⟨i % 8 * 1024 + r.val, by omega⟩ : Fin 8192) (⟨j % 4 * 2048 + k.val, by omega⟩ : Fin 8192) := by
  have h : ∀ (a : Vec Ideal S1024x256 .bf16) (b : Vec Ideal S2048x256 .bf16) (p : Vec Ideal S1024x1 .f32) (q : Vec Ideal S1x2048 .f32),
      k0_pay1 a b p q (ix2 r k) = p (ix2 r (0 : Fin 1)) + q (ix2 (0 : Fin 1) k) + ∑ d : Fin 256, a (ix2 r d) * b (ix2 k d) := fun a b p q => by
    pointwise [k0_pay1]
  rw [h, rnOf_at, normsOf_at]
  simp only [xnOf_at, codesOf_at]
  unfold sqDist
  exact Nearest.scaled_sum Finset.univ (nrm x _) (fun d => e (ix2 _ d)) (fun d => nrm_real x _ d) (fun d => he _ d) _

end Cert.KernelIdeal.Hand

namespace Cert.ReferenceIdeal.Hand

open Idealize.ShloMosaic Idealize.ShloMosaic.TcCoe Idealize.ShloMosaic.Tactic Cert.ReferenceIdeal
open Cert.KernelIdeal.Hand (mu sig2 nrm sqDist)
open Facts₀ Facts

variable (x e : FVec Ideal S8192x256 .f32)

theorem mean_at (d : Fin 256) : mean x (ix1 d) = mu x d := by
  have h : mean x (ix1 d) = Ideal.div (∑ i : Fin 8192, x (ix2 i d)) (Ideal.ofBits .f32 0x46000000#32) := by pointwise [mean]
  rw [h, Nearest.rows_eq, Nearest.div_coe _ (by norm_num)]; rfl

theorem centred_at (r : Fin 8192) (d : Fin 256) : centred x (ix2 r d) = x (ix2 r d) - mu x d := by
  have h : centred x (ix2 r d) = x (ix2 r d) - Ideal.div (∑ i : Fin 8192, x (ix2 i d)) (Ideal.ofBits .f32 0x46000000#32) := by pointwise [centred]
  rw [h, Nearest.rows_eq, Nearest.div_coe _ (by norm_num)]; rfl

theorem count_eq : count ix0 = ((8192 : ℝ) : EReal) := by
  have h : count ix0 = Ideal.ofBits .f32 0x46000000#32 - FloatOps.sitofp .f32 (0#32) := by pointwise [count]
  rw [h, Nearest.rows_eq]
  show ((8192 : ℝ) : EReal) - (((0#32 : BitVec 32).toInt : ℝ) : EReal) = _
  simp

theorem var_at (d : Fin 256) : var x (ix1 d) = sig2 x d := by
  have h : var x (ix1 d) = if 0 < count ix0 then Ideal.div (∑ i : Fin 8192, centred x (ix2 i d) * centred x (ix2 i d)) (count ix0)
      else Ideal.ofBits .f32 2143289344#32 := by pointwise [var]
  rw [h, count_eq, if_pos (by exact_mod_cast (by norm_num : (0 : ℝ) < 8192)), Nearest.div_coe _ (by norm_num)]
  unfold sig2
  simp only [centred_at]

theorem xn_at (r : Fin 8192) (d : Fin 256) : xn x (ix2 r d) = nrm x r d := by
  have h : xn x (ix2 r d) = Ideal.div (x (ix2 r d) - mean x (ix1 d)) (Ideal.sqrt (var x (ix1 d) + Ideal.ofBits .f32 925353388#32)) := by pointwise [xn]
  rw [h, mean_at, var_at]; rfl

theorem norms_at (r : Fin 8192) : norms x (ix1 r) = ∑ d : Fin 256, x (ix2 r d) * x (ix2 r d) := by
  pointwise [norms]

theorem dist_at (r k : Fin 8192) : dist (xn x) e (ix2 r k) = sqDist x e r k := by
  have h : ∀ y : FVec Ideal S8192x256 .f32, dist y e (ix2 r k)
      = norms y (ix1 r) + norms e (ix1 k) - Ideal.ofBits .f32 0x40000000#32 * ∑ d : Fin 256, y (ix2 r d) * e (ix2 k d) := fun y => by
    pointwise [dist]
  rw [h, norms_at, norms_at, Nearest.two_eq]
  simp only [xn_at]
  rfl

end Cert.ReferenceIdeal.Hand

end
-- ==== Proof.Search.lean ====
module

public import proofs.«01_k».proof.Proof.Values

@[expose] public section

noncomputable section

namespace Cert.KernelIdeal.Hand

open Cert.KernelIdeal Cert.KernelIdeal.Gen
open Idealize.ShloMosaic Idealize.ShloMosaic.TcCoe Idealize.ShloMosaic.Tactic

variable (x e : Vec Ideal S8192x256 .f32)

/-! ## The search of one block -/

section Block

variable (a : Vec Ideal S1024x256 .bf16) (b : Vec Ideal S2048x256 .bf16) (p : Vec Ideal S1024x1 .f32) (q : Vec Ideal S1x2048 .f32)

/-- The list of positions the kernel searches with. -/
theorem ids_at (k : Fin 2048) : (k0_pay14 (F := Ideal)) (ix2 (0 : Fin 1) k) = (((k.val : ℕ) : ℝ) : EReal) := by
  have h : (k0_pay14 (F := Ideal)) (ix2 (0 : Fin 1) k) = FloatOps.sitofp .f32 (BitVec.ofNat 32 k.val) := by pointwise [k0_pay14]
  rw [h]
  show (((BitVec.ofNat 32 k.val).toInt : ℝ) : EReal) = _
  rw [BitVec.toInt_eq_toNat_of_lt (by rw [BitVec.toNat_ofNat]; omega), BitVec.toNat_ofNat, Nat.mod_eq_of_lt (by omega)]
  simp

/-- The least distance of a row within a block and the index the kernel gives it: the first position attaining it. -/
theorem block_first (w : BitVec 32) (r : Fin 1024) :
    ∃ k : Fin 2048, k0_pay2 a b p q (ix2 r (0 : Fin 1)) = k0_pay1 a b p q (ix2 r k)
      ∧ k0_pay3 w a b p q (k0_pay14 (F := Ideal)) (ix2 r (0 : Fin 1)) = BitVec.ofNat 32 k.val + w * 2048#32
      ∧ (∀ l, k0_pay1 a b p q (ix2 r k) ≤ k0_pay1 a b p q (ix2 r l)) ∧ ∀ l, l < k → k0_pay1 a b p q (ix2 r k) < k0_pay1 a b p q (ix2 r l) := by
  have h2 : k0_pay2 a b p q (ix2 r (0 : Fin 1)) = Finset.fold min (Ideal.ofBits .f32 2139095040#32) (fun k : Fin 2048 => k0_pay1 a b p q (ix2 r k)) Finset.univ := by
    pointwise [k0_pay2]
  have h3 : ∀ v : Vec Ideal S1x2048 .f32, k0_pay3 w a b p q v (ix2 r (0 : Fin 1))
      = IntOp.addi (FloatOps.fptosi 32 (Finset.fold min (Ideal.ofBits .f32 2139095040#32) (fun k : Fin 2048 =>
          if k0_pay1 a b p q (ix2 r k) = k0_pay2 a b p q (ix2 r (0 : Fin 1)) then v (ix2 (0 : Fin 1) k) else Ideal.ofBits .f32 1157627904#32) Finset.univ))
        (Scalar.muli w 2048#32) := fun v => by pointwise [k0_pay3]
  have h3' := h3 (k0_pay14 (F := Ideal))
  rw [Nearest.top_eq] at h2 h3'
  simp only [ids_at, Nearest.width_eq] at h3'
  obtain ⟨k, hk, hmin, hfirst, hidx⟩ := Nearest.fold_first (by norm_num) (fun k : Fin 2048 => k0_pay1 a b p q (ix2 r k)) (w := 2048) (by norm_num) h2
  refine ⟨k, hk.symm, ?_, hmin, hfirst⟩
  rw [h3', hidx]
  show Ideal.fptosi 32 _ + w * 2048#32 = _
  rw [Nearest.fptosi_nat (by have := k.isLt; omega)]

/-- The first block keeps its least distance and index as they are. -/
theorem init_at (w : BitVec 32) (v : Vec Ideal S1x2048 .f32) (r : Fin 1024) :
    k0_pay4 a b p q (ix2 r (0 : Fin 1)) = k0_pay2 a b p q (ix2 r (0 : Fin 1))
      ∧ k0_pay5 w a b p q v (ix2 r (0 : Fin 1)) = k0_pay3 w a b p q v (ix2 r (0 : Fin 1)) := by
  constructor
  · pointwise [k0_pay4]
  · pointwise [k0_pay5]

/-- A later block's search: its least distance and index where that is strictly less than the running ones, else the running ones. -/
theorem later_at (w : BitVec 32) (v : Vec Ideal S1x2048 .f32) (m m' : Vec Ideal S1024x1 .f32) (n : Vec Ideal S1024x1 .i32) (r : Fin 1024) :
    k0_pay7 a b p q m m' (ix2 r (0 : Fin 1))
        = (if k0_pay2 a b p q (ix2 r (0 : Fin 1)) < m (ix2 r (0 : Fin 1)) then k0_pay2 a b p q (ix2 r (0 : Fin 1)) else m' (ix2 r (0 : Fin 1)))
      ∧ k0_pay8 w a b p q v m n (ix2 r (0 : Fin 1))
        = (if k0_pay2 a b p q (ix2 r (0 : Fin 1)) < m (ix2 r (0 : Fin 1)) then k0_pay3 w a b p q v (ix2 r (0 : Fin 1)) else n (ix2 r (0 : Fin 1))) := by
  constructor
  · pointwise [k0_pay7, k0_pay6]
  · pointwise [k0_pay8, k0_pay6]

end Block

/-! ## The search over the blocks -/

/-- The distances of row `r`, listed by the number of the code. -/
def distList (r : Fin 8192) (n : ℕ) : EReal := sqDist x e r ⟨n % 8192, Nat.mod_lt _ (by norm_num)⟩

/-- The first least distance within block `j`, and its index among all codes. -/
theorem block_of (he : ∀ k d, ∃ q : ℝ, e (ix2 k d) = (q : EReal)) (i : ℕ) (j : ℕ) (hj : j < 4) (r : Fin 1024) :
    ∃ l, Nearest.FirstMin (fun n => distList x e (⟨i % 8 * 1024 + r.val, by omega⟩ : Fin 8192) (j * 2048 + n)) 2048 l
      ∧ k0_pay2 (xnOf x i) (codesOf e j) (rnOf x i) (normsOf e j) (ix2 r (0 : Fin 1)) = distList x e (⟨i % 8 * 1024 + r.val, by omega⟩ : Fin 8192) (j * 2048 + l)
      ∧ k0_pay3 (BitVec.ofNat 32 j) (xnOf x i) (codesOf e j) (rnOf x i) (normsOf e j) (k0_pay14 (F := Ideal)) (ix2 r (0 : Fin 1)) = BitVec.ofNat 32 (j * 2048 + l) := by
  have hat : ∀ k : Fin 2048, k0_pay1 (xnOf x i) (codesOf e j) (rnOf x i) (normsOf e j) (ix2 r k)
      = distList x e (⟨i % 8 * 1024 + r.val, by omega⟩ : Fin 8192) (j * 2048 + k.val) := fun k => by
    rw [pay1_at x e he]
    unfold distList
    congr 1
    apply Fin.ext
    show j % 4 * 2048 + k.val = (j * 2048 + k.val) % 8192
    have := k.isLt
    omega
  obtain ⟨k, h1, h2, hmin, hfirst⟩ := block_first (xnOf x i) (codesOf e j) (rnOf x i) (normsOf e j) (BitVec.ofNat 32 j) r
  refine ⟨k.val, ⟨k.isLt, fun l hl => ?_, fun l hl => ?_⟩, h1.trans (hat k), h2.trans ?_⟩
  · have := hmin ⟨l, hl⟩; rwa [hat, hat] at this
  · have := hfirst ⟨l, hl.trans k.isLt⟩ hl; rwa [hat, hat] at this
  · rw [← BitVec.ofNat_mul, ← BitVec.ofNat_add, Nat.add_comm]

/-- After block `j` the kernel holds the first least distance over the codes so far, and its index. -/
theorem best_first (he : ∀ k d, ∃ q : ℝ, e (ix2 k d) = (q : EReal)) (i : ℕ) (r : Fin 1024) : ∀ j : ℕ, j < 4 →
    ∃ k, Nearest.FirstMin (distList x e (⟨i % 8 * 1024 + r.val, by omega⟩ : Fin 8192)) ((j + 1) * 2048) k
      ∧ (best x e i j).1 (ix2 r (0 : Fin 1)) = distList x e (⟨i % 8 * 1024 + r.val, by omega⟩ : Fin 8192) k
      ∧ (best x e i j).2 (ix2 r (0 : Fin 1)) = BitVec.ofNat 32 k
  | 0, hj => by
    obtain ⟨l, hl, h1, h2⟩ := block_of x e he i 0 hj r
    obtain ⟨f1, f2⟩ := init_at (xnOf x i) (codesOf e 0) (rnOf x i) (normsOf e 0) (BitVec.ofNat 32 0) (k0_pay14 (F := Ideal)) r
    simp only [Nat.zero_mul, Nat.zero_add] at hl
    rw [Nat.zero_mul, Nat.zero_add] at h1 h2
    exact ⟨l, hl, f1.trans h1, f2.trans h2⟩
  | j + 1, hj => by
    obtain ⟨k, hk, g1, g2⟩ := best_first he i r j (by omega)
    obtain ⟨l, hl, h1, h2⟩ := block_of x e he i (j + 1) hj r
    obtain ⟨f1, f2⟩ := later_at (xnOf x i) (codesOf e (j + 1)) (rnOf x i) (normsOf e (j + 1)) (BitVec.ofNat 32 (j + 1)) (k0_pay14 (F := Ideal))
      (best x e i j).1 (best x e i j).1 (best x e i j).2 r
    rw [h1, g1] at f1 f2
    rw [h2, g2] at f2
    refine ⟨_, by simpa only [Nat.succ_mul (j + 1)] using hk.extend hl, f1.trans ?_, f2.trans ?_⟩
    · split <;> rfl
    · split <;> rfl

/-- The kernel's result for row `r` is the number of the first code nearest to it. -/
theorem result_first (he : ∀ k d, ∃ q : ℝ, e (ix2 k d) = (q : EReal)) (i : ℕ) (hi : i < 8) (r : Fin 1024) :
    ∃ k, Nearest.FirstMin (distList x e (⟨i * 1024 + r.val, by omega⟩ : Fin 8192)) 8192 k
      ∧ (best x e i 3).2 (ix2 r (0 : Fin 1)) = BitVec.ofNat 32 k := by
  obtain ⟨k, hk, -, h⟩ := best_first x e he i r 3 (by norm_num)
  refine ⟨k, ?_, h⟩
  have hr : (⟨i % 8 * 1024 + r.val, by omega⟩ : Fin 8192) = ⟨i * 1024 + r.val, by omega⟩ := Fin.ext (show i % 8 * 1024 + r.val = i * 1024 + r.val by rw [Nat.mod_eq_of_lt hi])
  rw [hr] at hk
  exact hk

end Cert.KernelIdeal.Hand

end
-- ==== Proof.Argmin.lean ====
module

public import proofs.«01_k».proof.Proof.Ref
public import proofs.«01_k».proof.Proof.Math
public import Idealize.ShloMosaic.Lib.Pipeline.ValueKit

@[expose] public section

noncomputable section

namespace Cert.Nearest

open Idealize.ShloMosaic Idealize.ShloMosaic.TcCoe

variable {s t u : Shape} {axes : List (Fin s.rank)} {p : ℕ}

/-- A pair belongs to the list folded at `j` exactly when it is the value and the index of some entry of the row dropping to `j`. -/
theorem mem_row {α β : Type} (x : s.Idx → α) (y : s.Idx → β) (h : s.ReducesTo axes t) (j : t.Idx) (pos : Fin p → s.Idx)
    (hpos : ∀ i, h.drop i = j ↔ ∃ k, pos k = i) (q : α × β) :
    q ∈ Host.argReduceFiber x y h j ↔ ∃ k : Fin p, q = (x (pos k), y (pos k)) := by
  unfold Host.argReduceFiber
  rw [List.mem_map]
  constructor
  · rintro ⟨m, hm, rfl⟩
    rw [List.mem_filter] at hm
    obtain ⟨k, hk⟩ := (hpos _).1 (of_decide_eq_true hm.2)
    exact ⟨k, by rw [← hk]⟩
  · rintro ⟨k, rfl⟩
    refine ⟨s.rowMajor (pos k), ?_, by rw [Equiv.symm_apply_apply]⟩
    rw [List.mem_filter]
    refine ⟨List.mem_finRange _, decide_eq_true ?_⟩
    rw [Equiv.symm_apply_apply]
    exact (hpos _).2 ⟨k, rfl⟩

/-- A reduction of rows by value and then by index, from `⊤`, whose entries lie below `⊤` and are indexed by their position,
    gives the position of each row's first least entry. -/
theorem reduce2_first (hp : 0 < p) (hp' : p ≤ 2 ^ 31) {g : EReal × BitVec 32 → EReal × BitVec 32 → EReal × BitVec 32}
    (hg : ∀ a b, g a b = if a.1 < b.1 ∨ (a.1 = b.1 ∧ a.2.toInt < b.2.toInt) then a else b)
    (x : s.Idx → EReal) (y : s.Idx → BitVec 32) (ix : u.Idx → EReal) (iy : u.Idx → BitVec 32) (h : s.ReducesTo axes t) (hu : 0 < u.numel)
    (j : t.Idx) (pos : Fin p → s.Idx) (hpos : ∀ i, h.drop i = j ↔ ∃ k, pos k = i)
    (hix : ix (Shape.Idx.first hu) = ⊤) (hx : ∀ k, x (pos k) < ⊤) (hy : ∀ k, y (pos k) = BitVec.ofNat 32 k.val)
    {D : ℕ → EReal} (hD : ∀ k : Fin p, D k.val = x (pos k)) :
    ∃ k, FirstMin D p k ∧ (Host.reduce2 g x y ix iy h hu j).2 = BitVec.ofNat 32 k := by
  rw [Host.reduce2_eq_foldl_fiber]
  obtain ⟨hin, hle⟩ := foldl_lex hg (Host.argReduceFiber x y h j) (ix (Shape.Idx.first hu), iy (Shape.Idx.first hu))
  generalize (Host.argReduceFiber x y h j).foldl g (ix (Shape.Idx.first hu), iy (Shape.Idx.first hu)) = w at hin hle
  have hrow : ∀ k : Fin p, w.1 ≤ x (pos k) ∧ (w.1 = x (pos k) → w.2.toInt ≤ (y (pos k)).toInt) := fun k =>
    hle (x (pos k), y (pos k)) (List.mem_cons_of_mem _ ((mem_row x y h j pos hpos _).2 ⟨k, rfl⟩))
  have hmem : w ∈ Host.argReduceFiber x y h j := by
    rcases hin with hw | hw
    · have := (hrow ⟨0, hp⟩).1
      rw [hw, hix] at this
      exact absurd (this.trans_lt (hx _)) (lt_irrefl _)
    · exact hw
  obtain ⟨k, rfl⟩ := (mem_row x y h j pos hpos w).1 hmem
  have hint : ∀ l : Fin p, (y (pos l)).toInt = l.val := fun l => by
    rw [hy, BitVec.toInt_eq_toNat_of_lt, BitVec.toNat_ofNat, Nat.mod_eq_of_lt]
    · have := l.isLt; omega
    · rw [BitVec.toNat_ofNat, Nat.mod_eq_of_lt] <;> have := l.isLt <;> omega
  refine ⟨k.val, ⟨k.isLt, fun l hl => ?_, fun l hl => ?_⟩, hy k⟩
  · rw [hD k, hD ⟨l, hl⟩]; exact (hrow ⟨l, hl⟩).1
  · have hl' : l < p := hl.trans k.isLt
    rw [hD k, hD ⟨l, hl'⟩]
    refine lt_of_le_of_ne (hrow ⟨l, hl'⟩).1 fun he => ?_
    have := (hrow ⟨l, hl'⟩).2 he
    rw [hint, hint] at this
    have : k.val ≤ l := by exact_mod_cast this
    omega

/-- The same of the reduction as a host program writes it, its indices alone read. -/
theorem argReduce_first (hp : 0 < p) (hp' : p ≤ 2 ^ 31) {g : EReal × BitVec 32 → EReal × BitVec 32 → EReal × BitVec 32}
    (hg : ∀ a b, g a b = if a.1 < b.1 ∨ (a.1 = b.1 ∧ a.2.toInt < b.2.toInt) then a else b)
    (x : FVec Ideal s .f32) (y : IVec s 32) (ix : FVec Ideal u .f32) (iy : IVec u 32) (h : s.ReducesTo axes t) (hu : 0 < u.numel)
    (a : IVec t 32) (ha : a = fun j => (Host.argReduce (F := Ideal) (φ := .f32) g x y ix iy h hu j).2)
    (j : t.Idx) (pos : Fin p → s.Idx) (hpos : ∀ i, h.drop i = j ↔ ∃ k, pos k = i)
    (hix : ix (Shape.Idx.first hu) = (⊤ : EReal)) (hx : ∀ k, x (pos k) < (⊤ : EReal)) (hy : ∀ k, y (pos k) = BitVec.ofNat 32 k.val)
    {D : ℕ → EReal} (hD : ∀ k : Fin p, D k.val = x (pos k)) :
    ∃ k, FirstMin D p k ∧ a j = BitVec.ofNat 32 k := by
  subst ha
  rw [Ideal.argReduce_eq_reduce2]
  exact reduce2_first hp hp' hg x y ix iy h hu j pos hpos hix hx hy hD

end Cert.Nearest

namespace Cert.ReferenceIdeal.Hand

open Idealize.ShloMosaic Idealize.ShloMosaic.TcCoe Idealize.ShloMosaic.Tactic Cert.ReferenceIdeal
open Facts₀ Facts

/-- The reference's choice between two entries: the lesser value, and of equal values the lesser index. -/
theorem reducer_eq (a b : EReal × BitVec 32) :
    reducer_argmin_f32_i32 (F := Ideal) a b = if a.1 < b.1 ∨ (a.1 = b.1 ∧ a.2.toInt < b.2.toInt) then a else b := by
  obtain ⟨a, i⟩ := a
  obtain ⟨b, j⟩ := b
  simp only [reducer_argmin_f32_i32, Ideal.cmpf_def, Ideal.cmp, IntOp.ori, IntOp.andi, IntOp.cmpi, Scalar.select]
  rcases lt_trichotomy a b with h | h | h
  · simp [h, h.ne]
  · subst h
    by_cases hij : i.toInt < j.toInt <;> simp [hij, BitVec.slt]
  · simp [h.not_gt, h.ne']

/-- The definition, as an equation of functions. -/
theorem argmin_eq (d : FVec Ideal S8192x8192 .f32) :
    argmin d = fun j => (Host.argReduce reducer_argmin_f32_i32 d (iotaInDim S8192x8192 32 1) (constant S_ .f32 0x7F800000#32) (constantI S_ 32 0#32)
      reducesTo_S8192x8192_S8192_d1 h_S_ j).2 := rfl

/-- Where the distances of row `r` lie below `⊤`, the reference's index of it is the first position of the least of them. -/
theorem argmin_first (d : FVec Ideal S8192x8192 .f32) (r : Fin 8192) (hd : ∀ k : Fin 8192, d (ix2 r k) < (⊤ : EReal))
    {D : ℕ → EReal} (hD : ∀ k : Fin 8192, D k.val = d (ix2 r k)) :
    ∃ k, Nearest.FirstMin D 8192 k ∧ argmin d (ix1 r) = BitVec.ofNat 32 k := by
  exact Nearest.argReduce_first (by norm_num) (by norm_num) reducer_eq d (iotaInDim S8192x8192 32 1) (constant S_ .f32 0x7F800000#32)
    (constantI S_ 32 0#32) reducesTo_S8192x8192_S8192_d1 h_S_ (argmin d) (argmin_eq d) (ix1 r) (fun k => ix2 r k)
    (fun i => reducesTo_S8192x8192_S8192_d1.fiber_r2_a1 (ix1 r) i) Nearest.top_eq hd (fun k => rfl) hD

/-- The column of results read at a row. -/
theorem out_at (x e : FVec Ideal S8192x256 .f32) (r : Fin 8192) : out x e (ix2 r (0 : Fin 1)) = argmin (dist (xn x) e) (ix1 r) := by
  have h : ∀ a : IVec S8192 32, broadcastInDim S8192x1 ![0] bcast_S8192_S8192x1_0 a (ix2 r (0 : Fin 1)) = a (ix1 r) := fun a => by pointwise
  exact h _

end Cert.ReferenceIdeal.Hand

end
-- ==== Proof.Equal.lean ====
module

public import proofs.«01_k».proof.Proof.Search
public import proofs.«01_k».proof.Proof.Argmin
public import proofs.«01_k».proof.Proof.Final

@[expose] public section

noncomputable section

namespace Cert.Proof

open Idealize.ShloMosaic Idealize.ShloMosaic.TcCoe Idealize.SL.Sem Cert.KernelIdeal.Hand

/-- Row for row the kernel's result is the reference's, where the codes are real. -/
theorem result_eq (x e : Vec Ideal Cert.KernelIdeal.S8192x256 .f32) (he : ∀ k d, ∃ q : ℝ, e (ix2 k d) = (q : EReal)) (r : Fin 8192) :
    result x e r = Cert.ReferenceIdeal.Hand.out x e (ix2 r (0 : Fin 1)) := by
  have hr : (⟨r.val / 1024 * 1024 + r.val % 1024, by omega⟩ : Fin 8192) = r := Fin.ext (Nat.div_add_mod' r.val 1024)
  obtain ⟨k, hk, h⟩ := result_first x e he (r.val / 1024) (by omega) ⟨r.val % 1024, Nat.mod_lt _ (by norm_num)⟩
  rw [hr] at hk
  have hat : ∀ l : Fin 8192, distList x e r l.val = Cert.ReferenceIdeal.Hand.dist (Cert.ReferenceIdeal.Hand.xn x) e (ix2 r l) := fun l => by
    rw [Cert.ReferenceIdeal.Hand.dist_at]
    exact congrArg (sqDist x e r) (Fin.ext (Nat.mod_eq_of_lt l.isLt))
  obtain ⟨k', hk', h'⟩ := Cert.ReferenceIdeal.Hand.argmin_first (Cert.ReferenceIdeal.Hand.dist (Cert.ReferenceIdeal.Hand.xn x) e) r
    (fun l => by
      obtain ⟨q, hq⟩ := sqDist_real x e he r l
      rw [Cert.ReferenceIdeal.Hand.dist_at, hq]
      exact EReal.coe_lt_top q) hat
  unfold result
  rw [h, Cert.ReferenceIdeal.Hand.out_at, h', hk.unique hk']

/-- The precondition's function takes one shape condition. -/
theorem pre_facts : Cert.Pre_finite_embedding.Facts := ⟨by decide⟩

/-- The precondition says that every entry of the codes is real. -/
theorem real_of_pre [Cert.Pre_finite_embedding.Facts] {x0 e x2 : FVec Ideal Cert.Pre_finite_embedding.S8192x256 .f32} {x3 : FVec Ideal Cert.Pre_finite_embedding.S8192 .f32}
    {x4 x5 : FVec Ideal Cert.Pre_finite_embedding.S256 .f32}
    (h : Cert.Pre_finite_embedding.fn (F := Ideal) x0 e x2 x3 x4 x5 = fun _ => 1#1) (k : Fin 8192) (d : Fin 256) :
    ∃ q : ℝ, e (ix2 k d) = (q : EReal) := by
  have h1 := congrFun h (ix2 k d)
  have h2 : max (e (ix2 k d)) (-(e (ix2 k d) : EReal)) < (⊤ : EReal) := by
    have h3 : BitVec.ofBool (decide (max (e (ix2 k d)) (-(e (ix2 k d) : EReal)) < Ideal.ofBits .f32 0x7F800000#32)) = 1#1 := h1
    rw [Nearest.top_eq] at h3
    by_contra hn
    rw [decide_eq_false hn] at h3
    exact absurd h3 (by decide)
  generalize (e (ix2 k d) : EReal) = y at h2 ⊢
  induction y using EReal.rec with
  | bot => simp at h2
  | coe a => exact ⟨a, rfl⟩
  | top => simp at h2

/-- Kernel and reference, from memories agreeing on the arguments and codes that are real, end with the same indices. -/
theorem algebraic : Cert.algebraic_KernelIdeal_ReferenceIdeal_pre_finite_embedding (hKernelIdeal := Cert.KernelIdeal.Gen.facts)
    (hReferenceIdeal := Cert.ReferenceIdeal.Gen.facts) (hPre_finite_embedding := pre_facts) := by
  intro m g m' g' hpre hagree
  refine ⟨fun c => (Cert.ReferenceIdeal.Hand.out (xArr m c) (eArr m c) : IVec Cert.ReferenceIdeal.S8192x1 32), ?_, ?_⟩
  · refine (θ_run _ _ _).mono (fun r h c => ⟨?_, (h.1 c).2⟩) (run_result m g)
    funext y
    have hy : y = ix2 (y 0) (0 : Fin 1) := by
      funext a
      match a with
      | 0 => rfl
      | 1 => exact Subsingleton.elim (α := Fin 1) _ _
    rw [hy]
    exact ((h.1 c).1 (y 0)).trans (result_eq _ _ (@real_of_pre pre_facts _ _ _ _ _ _ (hpre c)) (y 0))
  · refine (θ_run _ _ _).mono (fun r h c => ⟨(h c).1.trans ?_, (h c).2⟩) (Cert.ReferenceIdeal.Hand.run m' g')
    rw [(hagree c).1, (hagree c).2.1]

end Cert.Proof

end
-- ==== Proof.lean ====
module

public import proofs.«01_k».proof.Defs
public import proofs.«01_k».proof.Proof.Frames
public import proofs.«01_k».proof.Proof.Equal

@[expose] public section

noncomputable section

namespace Cert.Proof

/-- A frame with no precondition gives the frame under one. -/
theorem claim : Cert.Claim := ⟨Cert.Kernel.Gen.facts, Cert.KernelIdeal.Gen.facts, Cert.ReferenceIdeal.Gen.facts, pre_facts,
  frame_kernel, frame_kernelIdeal, fun m g _ => frame_kernelIdeal m g trivial,
  Cert.ReferenceIdeal.Hand.frame, fun m g _ => Cert.ReferenceIdeal.Hand.frame m g trivial, trivial, algebraic⟩

end Cert.Proof

end
